-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S8192x2048 : Shape := ⟨2, ![8192, 2048]⟩
abbrev S2048x64 : Shape := ⟨2, ![2048, 64]⟩
abbrev S64 : Shape := ⟨1, ![64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

class Facts : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  natLt_1_32 : 1 < 32
  reducesTo_S8192_S_d0 : S8192.ReducesTo [0] S_
  dot_S8192x2048_S2048x64_S8192x64_1_0_0_1_n_n_wf : DotDims.WF S8192x2048 S2048x64 S8192x64 [1] [0] [0] [1] [] []

variable [Facts]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf
def fn_where {F : FTy → Type} [FloatOps F] (arg0 : IVec S8192x64 1) (arg1 : FVec F S_ .f32) (arg2 : FVec F S8192x64 .f32) : FVec F S8192x64 .f32 :=
  let v0 : FVec F S_ .f32 := id arg1
  let v1 : FVec F S8192x64 .f32 := broadcastInDim S8192x64 ![] bcast_S_S8192x64 v0
  let v2 : FVec F S8192x64 .f32 := select arg0 v1 arg2
  v2

def fn_part1 {F : FTy → Type} [FloatOps F] (main_v14 : FVec F S8192x64 .f32) (main_v16 : FVec F S8192x1 .f32) (main_v18 : IVec S8192x64 1) (main_cst_3 : FVec F S_ .f32) : IVec S_ 1 :=
  let main_v19 : FVec F S8192x64 .f32 := fn_where (F := F) main_v18 main_cst_3 main_v14
  let main_cst_4 : FVec F S_ .f32 := constant S_ .f32 0xFF800000#32
  let main_v20 : FVec F S8192 .f32 := (fun x v => Host.reduce FloatOps.maximumf x v reducesTo_S8192x64_S8192_d1 h_S_) main_v19 main_cst_4
  let main_v21 : FVec F S8192x1 .f32 := broadcastInDim S8192x1 ![0] bcast_S8192_S8192x1_0 main_v20
  let main_v22 : FVec F S8192x64 .f32 := broadcastInDim S8192x64 ![0, 1] bcast_S8192x1_S8192x64_0_1 main_v16
  let main_v23 : IVec S8192x64 1 := cmpf .oeq main_v14 main_v22
  let main_v24 : IVec S8192x64 32 := (extui 32 · natLt_1_32) main_v23
  let main_c : IVec S_ 32 := constantI S_ 32 0#32
  let main_v25 : IVec S8192 32 := (fun x v => Host.reduce IntOp.addi x v reducesTo_S8192x64_S8192_d1 h_S_) main_v24 main_c
  let main_c_5 : IVec S_ 32 := constantI S_ 32 1#32
  let main_v26 : IVec S8192 32 := broadcastInDim S8192 ![] bcast_S_S8192 main_c_5
  let main_v27 : IVec S8192 1 := cmpi .eq main_v25 main_v26
  let main_v28 : FVec F S8192x64 .f32 := broadcastInDim S8192x64 ![0, 1] bcast_S8192x1_S8192x64_0_1 main_v21
  let main_v29 : IVec S8192x64 1 := cmpf .oeq main_v19 main_v28
  let main_v30 : IVec S8192x64 32 := (extui 32 · natLt_1_32) main_v29
  let main_c_6 : IVec S_ 32 := constantI S_ 32 0#32
  let main_v31 : IVec S8192 32 := (fun x v => Host.reduce IntOp.addi x v reducesTo_S8192x64_S8192_d1 h_S_) main_v30 main_c_6
  let main_c_7 : IVec S_ 32 := constantI S_ 32 1#32
  let main_v32 : IVec S8192 32 := broadcastInDim S8192 ![] bcast_S_S8192 main_c_7
  let main_v33 : IVec S8192 1 := cmpi .eq main_v31 main_v32
  let main_v34 : IVec S8192 1 := andi main_v27 main_v33
  let main_c_8 : IVec S_ 1 := constantI S_ 1 1#1
  let main_v35 : IVec S_ 1 := (fun x v => Host.reduce IntOp.andi x v reducesTo_S8192_S_d0 h_S_) main_v34 main_c_8
  main_v35

def fn {F : FTy → Type} [FloatOps F] (main_arg0 : FVec F S8192x2048 .f32) (main_arg1 : FVec F S2048x64 .f32) (main_arg2 : FVec F S64 .f32) : IVec S_ 1 :=
  let main_v0 : FVec F S8192x64 .f32 := (fun l r => Host.dotGeneral dot_S8192x2048_S2048x64_S8192x64_1_0_0_1_n_n none l r) main_arg0 main_arg1
  let main_v1 : FVec F S1x64 .f32 := broadcastInDim S1x64 ![1] bcast_S64_S1x64_1 main_arg2
  let main_v2 : FVec F S8192x64 .f32 := broadcastInDim S8192x64 ![0, 1] bcast_S1x64_S8192x64_0_1 main_v1
  let main_v3 : FVec F S8192x64 .f32 := addf main_v0 main_v2
  let main_cst : FVec F S_ .f32 := constant S_ .f32 0xFF800000#32
  let main_v4 : FVec F S8192 .f32 := (fun x v => Host.reduce FloatOps.maximumf x v reducesTo_S8192x64_S8192_d1 h_S_) main_v3 main_cst
  let main_cst_0 : FVec F S_ .f32 := constant S_ .f32 0xFF800000#32
  let main_v5 : FVec F S8192 .f32 := broadcastInDim S8192 ![] bcast_S_S8192 main_cst_0
  let main_v6 : FVec F S8192 .f32 := maximumf main_v5 main_v4
  let main_v7 : FVec F S8192x1 .f32 := broadcastInDim S8192x1 ![0] bcast_S8192_S8192x1_0 main_v6
  let main_v8 : FVec F S8192x64 .f32 := broadcastInDim S8192x64 ![0, 1] bcast_S8192x1_S8192x64_0_1 main_v7
  let main_v9 : FVec F S8192x64 .f32 := subf main_v3 main_v8
  let main_v10 : FVec F S8192x64 .f32 := Host.exp main_v9
  let main_cst_1 : FVec F S_ .f32 := constant S_ .f32 0x00000000#32
  let main_v11 : FVec F S8192 .f32 := (fun x v => Host.reduceAdd x v reducesTo_S8192x64_S8192_d1 h_S_) main_v10 main_cst_1
  let main_v12 : FVec F S8192x1 .f32 := broadcastInDim S8192x1 ![0] bcast_S8192_S8192x1_0 main_v11
  let main_v13 : FVec F S8192x64 .f32 := broadcastInDim S8192x64 ![0, 1] bcast_S8192x1_S8192x64_0_1 main_v12
  let main_v14 : FVec F S8192x64 .f32 := Host.divf main_v10 main_v13
  let main_cst_2 : FVec F S_ .f32 := constant S_ .f32 0xFF800000#32
  let main_v15 : FVec F S8192 .f32 := (fun x v => Host.reduce FloatOps.maximumf x v reducesTo_S8192x64_S8192_d1 h_S_) main_v14 main_cst_2
  let main_v16 : FVec F S8192x1 .f32 := broadcastInDim S8192x1 ![0] bcast_S8192_S8192x1_0 main_v15
  let main_v17 : FVec F S8192x64 .f32 := broadcastInDim S8192x64 ![0, 1] bcast_S8192x1_S8192x64_0_1 main_v16
  let main_v18 : IVec S8192x64 1 := cmpf .oeq main_v14 main_v17
  let main_cst_3 : FVec F S_ .f32 := constant S_ .f32 0xBF800000#32
  fn_part1 (F := F) main_v14 main_v16 main_v18 main_cst_3
-- ==== Kernel.lean ====
abbrev S8192x2048 : Shape := ⟨2, ![8192, 2048]⟩
abbrev S2048x64 : Shape := ⟨2, ![2048, 64]⟩
abbrev S64 : Shape := ⟨1, ![64]⟩
abbrev S1x64 : Shape := ⟨2, ![1, 64]⟩
abbrev S8192x2 : Shape := ⟨2, ![8192, 2]⟩
abbrev S1x1 : Shape := ⟨2, ![1, 1]⟩
abbrev S_ : Shape := ⟨0, ![]⟩
abbrev S4x512x2048 : Shape := ⟨3, ![4, 512, 2048]⟩
abbrev S4 : Shape := ⟨1, ![4]⟩
abbrev S1 : Shape := ⟨1, ![1]⟩
abbrev S1x512x2048 : Shape := ⟨3, ![1, 512, 2048]⟩
abbrev S512x2048 : Shape := ⟨2, ![512, 2048]⟩
abbrev S512x64 : Shape := ⟨2, ![512, 64]⟩
abbrev S512 : Shape := ⟨1, ![512]⟩
abbrev S512x1 : Shape := ⟨2, ![512, 1]⟩
abbrev S512x2 : Shape := ⟨2, ![512, 2]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64, .f32⟩
  | .hbm, ⟨3, _⟩ => ⟨S1x64, .f32⟩
  | .hbm, ⟨4, _⟩ => ⟨S8192x2, .i32⟩
  | .hbm, ⟨5, _⟩ => ⟨S8192x2, .f32⟩
  | .hbm, ⟨6, _⟩ => ⟨S1x1, .f32⟩
  | .hbm, ⟨7, _⟩ => ⟨S_, .f32⟩
  | .local _ .vmem, ⟨0, _⟩ => ⟨S2048x64, .f32⟩
  | .local _ .vmem, ⟨1, _⟩ => ⟨S1x64, .f32⟩
  | .local _ .vmem, ⟨2, _⟩ => ⟨S8192x2, .i32⟩
  | .local _ .vmem, ⟨3, _⟩ => ⟨S8192x2, .f32⟩
  | .local _ .vmem, ⟨4, _⟩ => ⟨S1x1, .f32⟩
  | .local _ .vmem, ⟨5, _⟩ => ⟨S1x64, .f32⟩
  | .local _ .vmem, ⟨6, _⟩ => ⟨S1x64, .f32⟩
  | .local _ .vmem, ⟨7, _⟩ => ⟨S4x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_v0_1 : Ref sig .tc := ⟨.hbm, 5, rfl⟩
abbrev main_call0_v1_2 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scoped0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_33_r0 : BitVec 32 := 0#32
  let c4_i32_r0 : BitVec 32 := 4#32
  let v40_r0 : BitVec 32 := Scalar.remui c0_i32_33_r0 c4_i32_r0
  ![v40_r0.toNat]
def k0_off2 : Fin 3 → Nat :=
  let c0_i32_33_r0 : BitVec 32 := 0#32
  let c4_i32_r0 : BitVec 32 := 4#32
  let v40_r0 : BitVec 32 := Scalar.remui c0_i32_33_r0 c4_i32_r0
  let c0_i32_34_r0 : BitVec 32 := 0#32
  let c0_i32_35_r0 : BitVec 32 := 0#32
  ![v40_r0.toNat, 0, 0]
def k0_cond1 : BitVec 1 :=
  let true_41_r0 : BitVec 1 := 1#1
  let true_14_r0 : BitVec 1 := 1#1
  let c1_i32_r0 : BitVec 32 := 1#32
  let c0_i32_15_r0 : BitVec 32 := 0#32
  let v21_r0 : BitVec 32 := Scalar.select true_14_r0 c1_i32_r0 c0_i32_15_r0
  let c16_i32_r0 : BitVec 32 := 16#32
  let v22_r0 : BitVec 1 := Scalar.cmpi .eq v21_r0 c16_i32_r0
  let c0_i32_16_r0 : BitVec 32 := 0#32
  let v23_r0 : BitVec 32 := Scalar.select v22_r0 c0_i32_16_r0 v21_r0
  let c0_i32_17_r0 : BitVec 32 := 0#32
  let v24_r0 : BitVec 32 := Scalar.addi v23_r0 c0_i32_17_r0
  let c0_i32_40_r0 : BitVec 32 := 0#32
  let v47_r0 : BitVec 1 := Scalar.cmpi .ne v24_r0 c0_i32_40_r0
  let v48_r0 : BitVec 1 := Scalar.andi true_41_r0 v47_r0
  let true_42_r0 : BitVec 1 := 1#1
  let v49_r0 : BitVec 1 := Scalar.andi v48_r0 true_42_r0
  let v50_r0 : BitVec 32 := Scalar.extui v49_r0
  let c0_i32_43_r0 : BitVec 32 := 0#32
  let v51_r0 : BitVec 1 := Scalar.cmpi .ne v50_r0 c0_i32_43_r0
  v51_r0

def k0_off3 : Fin 1 → Nat :=
  let c0_i32_38_r0 : BitVec 32 := 0#32
  let c1_i32_39_r0 : BitVec 32 := 1#32
  let v46_r0 : BitVec 32 := Scalar.addi c0_i32_38_r0 c1_i32_39_r0
  let c4_i32_85_r0 : BitVec 32 := 4#32
  let v93_r0 : BitVec 32 := Scalar.remui v46_r0 c4_i32_85_r0
  ![v93_r0.toNat]
def k0_off4 : Fin 3 → Nat :=
  let c0_i32_38_r0 : BitVec 32 := 0#32
  let c1_i32_39_r0 : BitVec 32 := 1#32
  let v46_r0 : BitVec 32 := Scalar.addi c0_i32_38_r0 c1_i32_39_r0
  let c4_i32_85_r0 : BitVec 32 := 4#32
  let v93_r0 : BitVec 32 := Scalar.remui v46_r0 c4_i32_85_r0
  let c0_i32_86_r0 : BitVec 32 := 0#32
  let c0_i32_87_r0 : BitVec 32 := 0#32
  ![v93_r0.toNat, 0, 0]
def k0_off5 : Fin 2 → Nat :=
  let c512_i32_r0 : BitVec 32 := 512#32
  let true_14_r0 : BitVec 1 := 1#1
  let c1_i32_r0 : BitVec 32 := 1#32
  let c0_i32_15_r0 : BitVec 32 := 0#32
  let v21_r0 : BitVec 32 := Scalar.select true_14_r0 c1_i32_r0 c0_i32_15_r0
  let c16_i32_r0 : BitVec 32 := 16#32
  let v22_r0 : BitVec 1 := Scalar.cmpi .eq v21_r0 c16_i32_r0
  let c0_i32_16_r0 : BitVec 32 := 0#32
  let v23_r0 : BitVec 32 := Scalar.select v22_r0 c0_i32_16_r0 v21_r0
  let c0_i32_17_r0 : BitVec 32 := 0#32
  let v24_r0 : BitVec 32 := Scalar.addi v23_r0 c0_i32_17_r0
  let v94_r0 : BitVec 32 := Scalar.muli c512_i32_r0 v24_r0
  let c0_i32_88_r0 : BitVec 32 := 0#32
  ![v94_r0.toNat, 0]
def k0_cond2 : BitVec 1 :=
  let true_45_r0 : BitVec 1 := 1#1
  let true_19_r0 : BitVec 1 := 1#1
  let true_14_r0 : BitVec 1 := 1#1
  let c1_i32_r0 : BitVec 32 := 1#32
  let c0_i32_15_r0 : BitVec 32 := 0#32
  let v21_r0 : BitVec 32 := Scalar.select true_14_r0 c1_i32_r0 c0_i32_15_r0
  let c16_i32_r0 : BitVec 32 := 16#32
  let v22_r0 : BitVec 1 := Scalar.cmpi .eq v21_r0 c16_i32_r0
  let c0_i32_16_r0 : BitVec 32 := 0#32
  let v23_r0 : BitVec 32 := Scalar.select v22_r0 c0_i32_16_r0 v21_r0
  let c1_i32_18_r0 : BitVec 32 := 1#32
  let v25_r0 : BitVec 32 := Scalar.addi v23_r0 c1_i32_18_r0
  let v26_r0 : BitVec 32 := Scalar.select true_19_r0 v25_r0 v23_r0
  let c16_i32_20_r0 : BitVec 32 := 16#32
  let v27_r0 : BitVec 1 := Scalar.cmpi .eq v26_r0 c16_i32_20_r0
  let c0_i32_21_r0 : BitVec 32 := 0#32
  let v28_r0 : BitVec 32 := Scalar.select v27_r0 c0_i32_21_r0 v26_r0
  let c0_i32_22_r0 : BitVec 32 := 0#32
  let v29_r0 : BitVec 32 := Scalar.addi v28_r0 c0_i32_22_r0
  let c0_i32_17_r0 : BitVec 32 := 0#32
  let v24_r0 : BitVec 32 := Scalar.addi v23_r0 c0_i32_17_r0
  let v54_r0 : BitVec 1 := Scalar.cmpi .ne v29_r0 v24_r0
  let v55_r0 : BitVec 1 := Scalar.andi true_45_r0 v54_r0
  let true_46_r0 : BitVec 1 := 1#1
  let v56_r0 : BitVec 1 := Scalar.andi v55_r0 true_46_r0
  let v57_r0 : BitVec 32 := Scalar.extui v56_r0
  let c0_i32_47_r0 : BitVec 32 := 0#32
  let v58_r0 : BitVec 1 := Scalar.cmpi .ne v57_r0 c0_i32_47_r0
  v58_r0

def k0_off6 : Fin 1 → Nat :=
  let true_41_r0 : BitVec 1 := 1#1
  let true_14_r0 : BitVec 1 := 1#1
  let c1_i32_r0 : BitVec 32 := 1#32
  let c0_i32_15_r0 : BitVec 32 := 0#32
  let v21_r0 : BitVec 32 := Scalar.select true_14_r0 c1_i32_r0 c0_i32_15_r0
  let c16_i32_r0 : BitVec 32 := 16#32
  let v22_r0 : BitVec 1 := Scalar.cmpi .eq v21_r0 c16_i32_r0
  let c0_i32_16_r0 : BitVec 32 := 0#32
  let v23_r0 : BitVec 32 := Scalar.select v22_r0 c0_i32_16_r0 v21_r0
  let c0_i32_17_r0 : BitVec 32 := 0#32
  let v24_r0 : BitVec 32 := Scalar.addi v23_r0 c0_i32_17_r0
  let c0_i32_40_r0 : BitVec 32 := 0#32
  let v47_r0 : BitVec 1 := Scalar.cmpi .ne v24_r0 c0_i32_40_r0
  let v48_r0 : BitVec 1 := Scalar.andi true_41_r0 v47_r0
  let c0_i32_38_r0 : BitVec 32 := 0#32
  let c1_i32_39_r0 : BitVec 32 := 1#32
  let v46_r0 : BitVec 32 := Scalar.addi c0_i32_38_r0 c1_i32_39_r0
  let c1_i32_44_r0 : BitVec 32 := 1#32
  let v52_r0 : BitVec 32 := Scalar.addi v46_r0 c1_i32_44_r0
  let v53_r0 : BitVec 32 := Scalar.select v48_r0 v52_r0 v46_r0
  let c4_i32_85_r0 : BitVec 32 := 4#32
  let v93_r0 : BitVec 32 := Scalar.remui v53_r0 c4_i32_85_r0
  ![v93_r0.toNat]
def k0_off7 : Fin 3 → Nat :=
  let true_41_r0 : BitVec 1 := 1#1
  let true_14_r0 : BitVec 1 := 1#1
  let c1_i32_r0 : BitVec 32 := 1#32
  let c0_i32_15_r0 : BitVec 32 := 0#32
  let v21_r0 : BitVec 32 := Scalar.select true_14_r0 c1_i32_r0 c0_i32_15_r0
  let c16_i32_r0 : BitVec 32 := 16#32
  let v22_r0 : BitVec 1 := Scalar.cmpi .eq v21_r0 c16_i32_r0
  let c0_i32_16_r0 : BitVec 32 := 0#32
  let v23_r0 : BitVec 32 := Scalar.select v22_r0 c0_i32_16_r0 v21_r0
  let c0_i32_17_r0 : BitVec 32 := 0#32
  let v24_r0 : BitVec 32 := Scalar.addi v23_r0 c0_i32_17_r0
  let c0_i32_40_r0 : BitVec 32 := 0#32
  let v47_r0 : BitVec 1 := Scalar.cmpi .ne v24_r0 c0_i32_40_r0
  let v48_r0 : BitVec 1 := Scalar.andi true_41_r0 v47_r0
  let c0_i32_38_r0 : BitVec 32 := 0#32
  let c1_i32_39_r0 : BitVec 32 := 1#32
  let v46_r0 : BitVec 32 := Scalar.addi c0_i32_38_r0 c1_i32_39_r0
  let c1_i32_44_r0 : BitVec 32 := 1#32
  let v52_r0 : BitVec 32 := Scalar.addi v46_r0 c1_i32_44_r0
  let v53_r0 : BitVec 32 := Scalar.select v48_r0 v52_r0 v46_r0
  let c4_i32_85_r0 : BitVec 32 := 4#32
  let v93_r0 : BitVec 32 := Scalar.remui v53_r0 c4_i32_85_r0
  let c0_i32_86_r0 : BitVec 32 := 0#32
  let c0_i32_87_r0 : BitVec 32 := 0#32
  ![v93_r0.toNat, 0, 0]
def k0_off8 : Fin 2 → Nat :=
  let c512_i32_r0 : BitVec 32 := 512#32
  let true_19_r0 : BitVec 1 := 1#1
  let true_14_r0 : BitVec 1 := 1#1
  let c1_i32_r0 : BitVec 32 := 1#32
  let c0_i32_15_r0 : BitVec 32 := 0#32
  let v21_r0 : BitVec 32 := Scalar.select true_14_r0 c1_i32_r0 c0_i32_15_r0
  let c16_i32_r0 : BitVec 32 := 16#32
  let v22_r0 : BitVec 1 := Scalar.cmpi .eq v21_r0 c16_i32_r0
  let c0_i32_16_r0 : BitVec 32 := 0#32
  let v23_r0 : BitVec 32 := Scalar.select v22_r0 c0_i32_16_r0 v21_r0
  let c1_i32_18_r0 : BitVec 32 := 1#32
  let v25_r0 : BitVec 32 := Scalar.addi v23_r0 c1_i32_18_r0
  let v26_r0 : BitVec 32 := Scalar.select true_19_r0 v25_r0 v23_r0
  let c16_i32_20_r0 : BitVec 32 := 16#32
  let v27_r0 : BitVec 1 := Scalar.cmpi .eq v26_r0 c16_i32_20_r0
  let c0_i32_21_r0 : BitVec 32 := 0#32
  let v28_r0 : BitVec 32 := Scalar.select v27_r0 c0_i32_21_r0 v26_r0
  let c0_i32_22_r0 : BitVec 32 := 0#32
  let v29_r0 : BitVec 32 := Scalar.addi v28_r0 c0_i32_22_r0
  let v94_r0 : BitVec 32 := Scalar.muli c512_i32_r0 v29_r0
  let c0_i32_88_r0 : BitVec 32 := 0#32
  ![v94_r0.toNat, 0]
@[reducible] def k0_t1_loop : Scf.Loop 32 :=
  let c0_i32_51_r0 : BitVec 32 := 0#32
  let c16_i32_52_r0 : BitVec 32 := 16#32
  let v61_r0 : BitVec 32 := Scalar.addi c0_i32_51_r0 c16_i32_52_r0
  let c1_i32_53_r0 : BitVec 32 := 1#32
  ⟨c0_i32_51_r0, v61_r0, c1_i32_53_r0⟩
def k0_off9 (arg9_r0 : BitVec 32) : Fin 1 → Nat :=
  let c4_i32_155_r0 : BitVec 32 := 4#32
  let v216_r0 : BitVec 32 := Scalar.remui arg9_r0 c4_i32_155_r0
  ![v216_r0.toNat]
def k0_cond3 (k0_t1 : Fin k0_t1_loop.trips) (arg11_r0 : BitVec 32) : BitVec 1 :=
  let true_99_r0 : BitVec 1 := 1#1
  let true_94_r0 : BitVec 1 := 1#1
  let c1_i32_93_r0 : BitVec 32 := 1#32
  let v101_r0 : BitVec 32 := Scalar.addi arg11_r0 c1_i32_93_r0
  let v102_r0 : BitVec 32 := Scalar.select true_94_r0 v101_r0 arg11_r0
  let c16_i32_95_r0 : BitVec 32 := 16#32
  let v103_r0 : BitVec 1 := Scalar.cmpi .eq v102_r0 c16_i32_95_r0
  let c0_i32_96_r0 : BitVec 32 := 0#32
  let v104_r0 : BitVec 32 := Scalar.select v103_r0 c0_i32_96_r0 v102_r0
  let c1_i32_98_r0 : BitVec 32 := 1#32
  let v106_r0 : BitVec 32 := Scalar.addi v104_r0 c1_i32_98_r0
  let v107_r0 : BitVec 32 := Scalar.select true_99_r0 v106_r0 v104_r0
  let c16_i32_100_r0 : BitVec 32 := 16#32
  let v108_r0 : BitVec 1 := Scalar.cmpi .eq v107_r0 c16_i32_100_r0
  let c0_i32_101_r0 : BitVec 32 := 0#32
  let v109_r0 : BitVec 32 := Scalar.select v108_r0 c0_i32_101_r0 v107_r0
  let c0_i32_102_r0 : BitVec 32 := 0#32
  let v110_r0 : BitVec 32 := Scalar.addi v109_r0 c0_i32_102_r0
  let true_104_r0 : BitVec 1 := 1#1
  let c1_i32_103_r0 : BitVec 32 := 1#32
  let v111_r0 : BitVec 32 := Scalar.addi v109_r0 c1_i32_103_r0
  let v112_r0 : BitVec 32 := Scalar.select true_104_r0 v111_r0 v109_r0
  let c16_i32_105_r0 : BitVec 32 := 16#32
  let v113_r0 : BitVec 1 := Scalar.cmpi .eq v112_r0 c16_i32_105_r0
  let c0_i32_106_r0 : BitVec 32 := 0#32
  let v114_r0 : BitVec 32 := Scalar.select v113_r0 c0_i32_106_r0 v112_r0
  let c0_i32_107_r0 : BitVec 32 := 0#32
  let v115_r0 : BitVec 32 := Scalar.addi v114_r0 c0_i32_107_r0
  let v121_r0 : BitVec 1 := Scalar.cmpi .ne v110_r0 v115_r0
  let c0_i32_51_r0 : BitVec 32 := 0#32
  let c1_i32_53_r0 : BitVec 32 := 1#32
  let arg8_r0 : BitVec 32 := Scf.iv c0_i32_51_r0 c1_i32_53_r0 k0_t1
  let c13_i32_r0 : BitVec 32 := 13#32
  let v122_r0 : BitVec 1 := Scalar.cmpi .sge arg8_r0 c13_i32_r0
  let true_113_r0 : BitVec 1 := 1#1
  let v123_r0 : BitVec 1 := Scalar.xori v122_r0 true_113_r0
  let v124_r0 : BitVec 1 := Scalar.andi v121_r0 v123_r0
  let true_114_r0 : BitVec 1 := 1#1
  let v125_r0 : BitVec 1 := Scalar.andi v124_r0 true_114_r0
  let v126_r0 : BitVec 32 := Scalar.extui v125_r0
  let c0_i32_115_r0 : BitVec 32 := 0#32
  let v127_r0 : BitVec 1 := Scalar.cmpi .ne v126_r0 c0_i32_115_r0
  v127_r0

def k0_off10 (arg9_r0 : BitVec 32) : Fin 3 → Nat :=
  let c4_i32_155_r0 : BitVec 32 := 4#32
  let v216_r0 : BitVec 32 := Scalar.remui arg9_r0 c4_i32_155_r0
  let c0_i32_157_r0 : BitVec 32 := 0#32
  let c0_i32_158_r0 : BitVec 32 := 0#32
  ![v216_r0.toNat, 0, 0]
def k0_off11 (arg11_r0 : BitVec 32) : Fin 2 → Nat :=
  let c512_i32_156_r0 : BitVec 32 := 512#32
  let true_104_r0 : BitVec 1 := 1#1
  let true_99_r0 : BitVec 1 := 1#1
  let true_94_r0 : BitVec 1 := 1#1
  let c1_i32_93_r0 : BitVec 32 := 1#32
  let v101_r0 : BitVec 32 := Scalar.addi arg11_r0 c1_i32_93_r0
  let v102_r0 : BitVec 32 := Scalar.select true_94_r0 v101_r0 arg11_r0
  let c16_i32_95_r0 : BitVec 32 := 16#32
  let v103_r0 : BitVec 1 := Scalar.cmpi .eq v102_r0 c16_i32_95_r0
  let c0_i32_96_r0 : BitVec 32 := 0#32
  let v104_r0 : BitVec 32 := Scalar.select v103_r0 c0_i32_96_r0 v102_r0
  let c1_i32_98_r0 : BitVec 32 := 1#32
  let v106_r0 : BitVec 32 := Scalar.addi v104_r0 c1_i32_98_r0
  let v107_r0 : BitVec 32 := Scalar.select true_99_r0 v106_r0 v104_r0
  let c16_i32_100_r0 : BitVec 32 := 16#32
  let v108_r0 : BitVec 1 := Scalar.cmpi .eq v107_r0 c16_i32_100_r0
  let c0_i32_101_r0 : BitVec 32 := 0#32
  let v109_r0 : BitVec 32 := Scalar.select v108_r0 c0_i32_101_r0 v107_r0
  let c1_i32_103_r0 : BitVec 32 := 1#32
  let v111_r0 : BitVec 32 := Scalar.addi v109_r0 c1_i32_103_r0
  let v112_r0 : BitVec 32 := Scalar.select true_104_r0 v111_r0 v109_r0
  let c16_i32_105_r0 : BitVec 32 := 16#32
  let v113_r0 : BitVec 1 := Scalar.cmpi .eq v112_r0 c16_i32_105_r0
  let c0_i32_106_r0 : BitVec 32 := 0#32
  let v114_r0 : BitVec 32 := Scalar.select v113_r0 c0_i32_106_r0 v112_r0
  let c0_i32_107_r0 : BitVec 32 := 0#32
  let v115_r0 : BitVec 32 := Scalar.addi v114_r0 c0_i32_107_r0
  let v217_r0 : BitVec 32 := Scalar.muli c512_i32_156_r0 v115_r0
  let c0_i32_159_r0 : BitVec 32 := 0#32
  ![v217_r0.toNat, 0]
def k0_off12 (arg10_r0 : BitVec 32) : Fin 1 → Nat :=
  let c4_i32_156_r0 : BitVec 32 := 4#32
  let v217_r0 : BitVec 32 := Scalar.remui arg10_r0 c4_i32_156_r0
  ![v217_r0.toNat]
def k0_cond4 (k0_t1 : Fin k0_t1_loop.trips) (arg11_r0 : BitVec 32) : BitVec 1 :=
  let c0_i32_87_r0 : BitVec 32 := 0#32
  let v95_r0 : BitVec 32 := Scalar.addi arg11_r0 c0_i32_87_r0
  let true_89_r0 : BitVec 1 := 1#1
  let c1_i32_88_r0 : BitVec 32 := 1#32
  let v96_r0 : BitVec 32 := Scalar.subi arg11_r0 c1_i32_88_r0
  let v97_r0 : BitVec 32 := Scalar.select true_89_r0 v96_r0 arg11_r0
  let c_m1_i32_90_r0 : BitVec 32 := 4294967295#32
  let v98_r0 : BitVec 1 := Scalar.cmpi .eq v97_r0 c_m1_i32_90_r0
  let c15_i32_91_r0 : BitVec 32 := 15#32
  let v99_r0 : BitVec 32 := Scalar.select v98_r0 c15_i32_91_r0 v97_r0
  let c0_i32_92_r0 : BitVec 32 := 0#32
  let v100_r0 : BitVec 32 := Scalar.addi v99_r0 c0_i32_92_r0
  let v131_r0 : BitVec 1 := Scalar.cmpi .ne v95_r0 v100_r0
  let c0_i32_51_r0 : BitVec 32 := 0#32
  let c1_i32_53_r0 : BitVec 32 := 1#32
  let arg8_r0 : BitVec 32 := Scf.iv c0_i32_51_r0 c1_i32_53_r0 k0_t1
  let c0_i32_85_r0 : BitVec 32 := 0#32
  let v93_r0 : BitVec 1 := Scalar.cmpi .eq arg8_r0 c0_i32_85_r0
  let v132_r0 : BitVec 1 := Scalar.ori v131_r0 v93_r0
  let c0_i32_118_r0 : BitVec 32 := 0#32
  let v133_r0 : BitVec 1 := Scalar.cmpi .sge arg8_r0 c0_i32_118_r0
  let v134_r0 : BitVec 1 := Scalar.andi v132_r0 v133_r0
  let v135_r0 : BitVec 32 := Scalar.extui v134_r0
  let c0_i32_119_r0 : BitVec 32 := 0#32
  let v136_r0 : BitVec 1 := Scalar.cmpi .ne v135_r0 c0_i32_119_r0
  v136_r0

def k0_off13 (arg10_r0 : BitVec 32) : Fin 3 → Nat :=
  let c4_i32_156_r0 : BitVec 32 := 4#32
  let v217_r0 : BitVec 32 := Scalar.remui arg10_r0 c4_i32_156_r0
  let c0_i32_157_r0 : BitVec 32 := 0#32
  let c0_i32_158_r0 : BitVec 32 := 0#32
  ![v217_r0.toNat, 0, 0]
def k0_off14 (arg11_r0 : BitVec 32) : Fin 2 → Nat :=
  let c512_i32_155_r0 : BitVec 32 := 512#32
  let c0_i32_87_r0 : BitVec 32 := 0#32
  let v95_r0 : BitVec 32 := Scalar.addi arg11_r0 c0_i32_87_r0
  let v216_r0 : BitVec 32 := Scalar.muli c512_i32_155_r0 v95_r0
  let c0_i32_159_r0 : BitVec 32 := 0#32
  ![v216_r0.toNat, 0]
def k0_off15 (arg10_r0 : BitVec 32) : Fin 3 → Nat :=
  let c4_i32_120_r0 : BitVec 32 := 4#32
  let v137_r0 : BitVec 32 := Scalar.remui arg10_r0 c4_i32_120_r0
  let v138_r0 : Index := Scalar.indexCast v137_r0
  let c0_121_r0 : Index := 0#32
  let c0_122_r0 : Index := 0#32
  ![v138_r0.toNat, 0, 0]

def k0_chk2 (arg10_r0 : BitVec 32) : Prop :=
  (∀ a, (k0_off15 arg10_r0) a + S1x512x2048.size a ≤ S4x512x2048.size a)
theorem k0_off15_inb : ∀ (arg10_r0 : BitVec 32) (k0_hw2 : k0_chk2 arg10_r0), ∀ a, (k0_off15 arg10_r0) a + S1x512x2048.size a ≤ S4x512x2048.size a := fun arg10_r0 k0_hw2 => k0_hw2

def k0_off16 (arg11_r0 : BitVec 32) : Fin 2 → Nat :=
  let c0_i32_87_r0 : BitVec 32 := 0#32
  let v95_r0 : BitVec 32 := Scalar.addi arg11_r0 c0_i32_87_r0
  let c512_i32_r0 : BitVec 32 := 512#32
  let v169_r0 : BitVec 32 := Scalar.muli v95_r0 c512_i32_r0
  let v170_r0 : Index := Scalar.indexCast v169_r0
  let c0_133_r0 : Index := 0#32
  ![v170_r0.toNat, 0]

def k0_chk1 (k0_t1 : Fin k0_t1_loop.trips) (arg9_r0 : BitVec 32) (arg10_r0 : BitVec 32) (arg11_r0 : BitVec 32) : Prop :=
  (∀ (k0_h3 : k0_cond3 k0_t1 arg11_r0 = 1#1), ∀ a, (k0_off9 arg9_r0) a + S1.size a ≤ S4.size a) ∧
  (∀ (k0_h3 : k0_cond3 k0_t1 arg11_r0 = 1#1), ∀ a, (k0_off10 arg9_r0) a + S1x512x2048.size a ≤ S4x512x2048.size a) ∧
  (∀ (k0_h3 : k0_cond3 k0_t1 arg11_r0 = 1#1), ∀ a, (k0_off11 arg11_r0) a + S512x2048.size a ≤ S8192x2048.size a) ∧
  (∀ (k0_h4 : k0_cond4 k0_t1 arg11_r0 = 1#1), ∀ a, (k0_off12 arg10_r0) a + S1.size a ≤ S4.size a) ∧
  (∀ (k0_h4 : k0_cond4 k0_t1 arg11_r0 = 1#1), ∀ a, (k0_off13 arg10_r0) a + S1x512x2048.size a ≤ S4x512x2048.size a) ∧
  (∀ (k0_h4 : k0_cond4 k0_t1 arg11_r0 = 1#1), ∀ a, (k0_off14 arg11_r0) a + S512x2048.size a ≤ S8192x2048.size a) ∧
  (∀ a, (k0_off16 arg11_r0) a + S512x2.size a ≤ S8192x2.size a)
theorem k0_off9_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h3 : k0_cond3 k0_t1 arg11_r0 = 1#1), ∀ a, (k0_off9 arg9_r0) a + S1.size a ≤ S4.size a := fun k0_t1 arg9_r0 arg10_r0 arg11_r0 k0_hw1 k0_h3 => k0_hw1.1 k0_h3
theorem k0_off10_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h3 : k0_cond3 k0_t1 arg11_r0 = 1#1), ∀ a, (k0_off10 arg9_r0) a + S1x512x2048.size a ≤ S4x512x2048.size a := fun k0_t1 arg9_r0 arg10_r0 arg11_r0 k0_hw1 k0_h3 => k0_hw1.2.1 k0_h3
theorem k0_off11_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h3 : k0_cond3 k0_t1 arg11_r0 = 1#1), ∀ a, (k0_off11 arg11_r0) a + S512x2048.size a ≤ S8192x2048.size a := fun k0_t1 arg9_r0 arg10_r0 arg11_r0 k0_hw1 k0_h3 => k0_hw1.2.2.1 k0_h3
theorem k0_off12_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h4 : k0_cond4 k0_t1 arg11_r0 = 1#1), ∀ a, (k0_off12 arg10_r0) a + S1.size a ≤ S4.size a := fun k0_t1 arg9_r0 arg10_r0 arg11_r0 k0_hw1 k0_h4 => k0_hw1.2.2.2.1 k0_h4
theorem k0_off13_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h4 : k0_cond4 k0_t1 arg11_r0 = 1#1), ∀ a, (k0_off13 arg10_r0) a + S1x512x2048.size a ≤ S4x512x2048.size a := fun k0_t1 arg9_r0 arg10_r0 arg11_r0 k0_hw1 k0_h4 => k0_hw1.2.2.2.2.1 k0_h4
theorem k0_off14_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h4 : k0_cond4 k0_t1 arg11_r0 = 1#1), ∀ a, (k0_off14 arg11_r0) a + S512x2048.size a ≤ S8192x2048.size a := fun k0_t1 arg9_r0 arg10_r0 arg11_r0 k0_hw1 k0_h4 => k0_hw1.2.2.2.2.2.1 k0_h4
theorem k0_off16_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ a, (k0_off16 arg11_r0) a + S512x2.size a ≤ S8192x2.size a := fun k0_t1 arg9_r0 arg10_r0 arg11_r0 k0_hw1 => k0_hw1.2.2.2.2.2.2

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x2048 : Shape := ⟨2, ![8192, 2048]⟩
abbrev S2048x64 : Shape := ⟨2, ![2048, 64]⟩
abbrev S64 : Shape := ⟨1, ![64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S8192x2 : Shape := ⟨2, ![8192, 2]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64, .f32⟩
  | .hbm, ⟨3, _⟩ => ⟨S8192x64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S8192x2, .f32⟩
  | .hbm, ⟨22, _⟩ => ⟨S8192x2, .i32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S8192x1, .i32⟩
  | .hbm, ⟨29, _⟩ => ⟨S8192, .i32⟩
  | .hbm, ⟨30, _⟩ => ⟨S_, .f32⟩
  | .hbm, ⟨31, _⟩ => ⟨S64, .f32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S_, .f32⟩
  | .hbm, ⟨41, _⟩ => ⟨S8192, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Proof.Words.lean ====
/-
  The words the pipelined loop carries, and what the printed offsets, conditions and checks come to at
  them. Before trip `k` the loop carries the number of blocks issued, the number waited and the block
  index; each is a closed form of `k`, so every fact below is decided over the sixteen trips at once.
-/
module

public import proofs.«01_k».proof.Proof.Gen.KernelIdeal.Loops
public import proofs.«01_k».proof.Proof.Gen.KernelIdeal
public import Idealize.ShloMosaic.Lib.Ring.Trips
public import Idealize.ShloMosaic.Lib.Ring.AtN
public import Idealize.ShloMosaic.Lib.Tactic

@[expose] public section

set_option maxRecDepth 16384

noncomputable section

namespace Cert.KernelIdeal.Body

open Idealize.ShloMosaic Idealize.ShloMosaic.TcCoe Idealize.SL.Sem
open Cert.KernelIdeal Cert.KernelIdeal.Gen

/-- The blocks issued before trip `k`: three ahead, at most all sixteen. -/
def wI (k : ℕ) : BitVec 32 := BitVec.ofNat 32 (min (k + 3) 16)
/-- The blocks waited before trip `k`. -/
def wW (k : ℕ) : BitVec 32 := BitVec.ofNat 32 k
/-- The block index before trip `k`, back at zero after the last. -/
def wB (k : ℕ) : BitVec 32 := BitVec.ofNat 32 (k % 16)

/-- Block `b`'s first row and column in `x`. -/
abbrev grpOff (b : Fin 16) : Fin 2 → Nat := ![512 * b.val, 0]
theorem grpOff_inb (b : Fin 16) : ∀ a, grpOff b a + S512x2048.size a ≤ S8192x2048.size a := by
  have := b.isLt; intro a
  match a with
  | ⟨0, _⟩ => show 512 * b.val + 512 ≤ 8192; omega
  | ⟨1, _⟩ => show 0 + 2048 ≤ 2048; omega
/-- Slot `s` of the ring buffer. -/
abbrev slotOff (s : Fin 4) : Fin 3 → Nat := ![s.val, 0, 0]
theorem slotOff_inb (s : Fin 4) : ∀ a, slotOff s a + S1x512x2048.size a ≤ S4x512x2048.size a := by
  have := s.isLt; intro a
  match a with
  | ⟨0, _⟩ => show s.val + 1 ≤ 4; omega
  | ⟨1, _⟩ => show 0 + 512 ≤ 512; omega
  | ⟨2, _⟩ => show 0 + 2048 ≤ 2048; omega
/-- Slot `s`'s semaphore. -/
abbrev semOff (s : Fin 4) : Fin 1 → Nat := ![s.val]
theorem semOff_inb (s : Fin 4) : ∀ a, semOff s a + S1.size a ≤ S4.size a := by
  have := s.isLt; intro a
  match a with
  | ⟨0, _⟩ => show s.val + 1 ≤ 4; omega

theorem trips_eq : k0_t1_loop.trips = 16 := by decide +kernel

/-- What the wait, the load and the stores address at trip `k`: slot `k` of the ring, rows of block `k`. -/
theorem facts_wait : ∀ k : Fin k0_t1_loop.trips, k0_off12 (wW k.val) = semOff (Ring.sl 4 k.val)
    ∧ k0_off13 (wW k.val) = slotOff (Ring.sl 4 k.val) ∧ k0_off15 (wW k.val) = slotOff (Ring.sl 4 k.val)
    ∧ k0_off14 (wB k.val) = grpOff (Ring.bk 16 k.val) ∧ k0_off16 (wB k.val) = ![512 * k.val, 0]
    ∧ k0_cond4 k (wB k.val) = 1#1 ∧ k0_chk2 (wW k.val) ∧ k0_chk1 k (wI k.val) (wW k.val) (wB k.val) := by
  decide +kernel

/-- What the issue addresses at trip `k < 13`: slot and block `k + 3`; -/
theorem facts_issue : ∀ k : Fin k0_t1_loop.trips, k.val + 3 < 16 → k0_cond3 k (wB k.val) = 1#1
    ∧ k0_off9 (wI k.val) = semOff (Ring.sl 4 (k.val + 3)) ∧ k0_off10 (wI k.val) = slotOff (Ring.sl 4 (k.val + 3))
    ∧ k0_off11 (wB k.val) = grpOff (Ring.bk 16 (k.val + 3)) := by
  decide +kernel

/-- the last three trips issue nothing. -/
theorem facts_idle : ∀ k : Fin k0_t1_loop.trips, ¬(k.val + 3 < 16) → ¬k0_cond3 k (wB k.val) = 1#1 := by
  decide +kernel

theorem off12_eq (k : Fin k0_t1_loop.trips) : k0_off12 (wW k.val) = semOff (Ring.sl 4 k.val) := (facts_wait k).1
theorem off13_eq (k : Fin k0_t1_loop.trips) : k0_off13 (wW k.val) = slotOff (Ring.sl 4 k.val) := (facts_wait k).2.1
theorem off15_eq (k : Fin k0_t1_loop.trips) : k0_off15 (wW k.val) = slotOff (Ring.sl 4 k.val) := (facts_wait k).2.2.1
theorem off14_eq (k : Fin k0_t1_loop.trips) : k0_off14 (wB k.val) = grpOff (Ring.bk 16 k.val) := (facts_wait k).2.2.2.1
theorem off16_eq (k : Fin k0_t1_loop.trips) : k0_off16 (wB k.val) = ![512 * k.val, 0] := (facts_wait k).2.2.2.2.1
theorem cond4_eq (k : Fin k0_t1_loop.trips) : k0_cond4 k (wB k.val) = 1#1 := (facts_wait k).2.2.2.2.2.1
theorem chk2_of (k : Fin k0_t1_loop.trips) : k0_chk2 (wW k.val) := (facts_wait k).2.2.2.2.2.2.1
theorem chk1_of (k : Fin k0_t1_loop.trips) : k0_chk1 k (wI k.val) (wW k.val) (wB k.val) := (facts_wait k).2.2.2.2.2.2.2

/-! ## Canonical names: block `b` of `x`, slot `s` of the ring buffer, slot `s`'s semaphore -/

abbrev aM : Memref sig .tc .hbm S8192x2048 .f32 := Memref.whole main_arg0
abbrev bufM : Memref sig .tc .vmem S4x512x2048 .f32 := Memref.whole cc0_scoped0

/-- Block `b` of `x`, as the body slices it. -/
def grp (b : Fin 16) : Memref sig .tc .hbm S512x2048 .f32 :=
  aM.slice (Rect.unit (s := S8192x2048) (grpOff b) S512x2048.size (grpOff_inb b)) (fun _ => rfl)
/-- Slot `s` of the ring buffer, as the body slices and squeezes it. -/
def rslot (s : Fin 4) : Memref sig .tc .vmem S512x2048 .f32 :=
  (bufM.slice (Rect.unit (s := S4x512x2048) (slotOff s) S1x512x2048.size (slotOff_inb s)) (fun _ => rfl)).squeeze S512x2048 squeezes_S1x512x2048_S512x2048
/-- Slot `s`'s DMA semaphore. -/
def csm (s : Fin 4) : DmaSems sig S_ := (cc0_scoped1.slice (Rect.unit (s := S4) (semOff s) S1.size (semOff_inb s))).squeeze S_ squeezes_S1_S_

instance (s : Fin 4) : ClosedOff (slotOff s) := ⟨slotOff s, rfl⟩
instance (b : Fin 16) : ClosedOff (grpOff b) := ⟨grpOff b, rfl⟩
instance (k : Fin k0_t1_loop.trips) : ClosedOff (k0_off15 (wW k.val)) := ⟨slotOff (Ring.sl 4 k.val), off15_eq k⟩
instance (k : Fin k0_t1_loop.trips) : ClosedOff (k0_off16 (wB k.val)) := ⟨![512 * k.val, 0], off16_eq k⟩

theorem csm_congr {off : Fin 1 → Nat} {s : Fin 4} (e : off = semOff s) (hh) :
    (cc0_scoped1.slice (Rect.unit (s := S4) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 4} (e : off = slotOff s) (hh hs) :
    (bufM.slice (Rect.unit (s := S4x512x2048) off S1x512x2048.size hh) hs).squeeze S512x2048 squeezes_S1x512x2048_S512x2048 = rslot s :=
  congrArg (fun M : Memref sig .tc .vmem S1x512x2048 .f32 => M.squeeze S512x2048 squeezes_S1x512x2048_S512x2048) (Memref.slice_unit_congr _ e _ _ _ _)
theorem grp_congr {off : Fin 2 → Nat} {b : Fin 16} (e : off = grpOff b) (hh hs) :
    aM.slice (Rect.unit (s := S8192x2048) off S512x2048.size hh) hs = grp b :=
  Memref.slice_unit_congr _ e _ (grpOff_inb b) _ (fun _ => rfl)

/-! The prologue's three issues: blocks 0, 1, 2 into slots 0, 1, 2. -/
@[sl_canon] theorem semP0 (hh) : (cc0_scoped1.slice (Rect.unit (s := S4) k0_off1 S1.size hh)).squeeze S_ squeezes_S1_S_ = csm 0 := csm_congr (by decide +kernel) _
@[sl_canon] theorem semP1 (hh) : (cc0_scoped1.slice (Rect.unit (s := S4) k0_off3 S1.size hh)).squeeze S_ squeezes_S1_S_ = csm 1 := csm_congr (by decide +kernel) _
@[sl_canon] theorem semP2 (hh) : (cc0_scoped1.slice (Rect.unit (s := S4) k0_off6 S1.size hh)).squeeze S_ squeezes_S1_S_ = csm 2 := csm_congr (by decide +kernel) _
@[sl_canon] theorem slotP0 (hh hs) : (bufM.slice (Rect.unit (s := S4x512x2048) k0_off2 S1x512x2048.size hh) hs).squeeze S512x2048 squeezes_S1x512x2048_S512x2048 = rslot 0 := rslot_congr (by decide +kernel) _ _
@[sl_canon] theorem slotP1 (hh hs) : (bufM.slice (Rect.unit (s := S4x512x2048) k0_off4 S1x512x2048.size hh) hs).squeeze S512x2048 squeezes_S1x512x2048_S512x2048 = rslot 1 := rslot_congr (by decide +kernel) _ _
@[sl_canon] theorem slotP2 (hh hs) : (bufM.slice (Rect.unit (s := S4x512x2048) k0_off7 S1x512x2048.size hh) hs).squeeze S512x2048 squeezes_S1x512x2048_S512x2048 = rslot 2 := rslot_congr (by decide +kernel) _ _
@[sl_canon] theorem grpP0 (hh hs) : aM.slice (Rect.unit (s := S8192x2048) ![0, 0] S512x2048.size hh) hs = grp 0 := grp_congr (by decide) _ _
@[sl_canon] theorem grpP1 (hh hs) : aM.slice (Rect.unit (s := S8192x2048) k0_off5 S512x2048.size hh) hs = grp 1 := grp_congr (by decide +kernel) _ _
@[sl_canon] theorem grpP2 (hh hs) : aM.slice (Rect.unit (s := S8192x2048) k0_off8 S512x2048.size hh) hs = grp 2 := grp_congr (by decide +kernel) _ _

/-! Trip `k`: block `k` waited in slot `k`, block `k + 3` issued into slot `k + 3`. -/
@[sl_canon] theorem semW (k : Fin k0_t1_loop.trips) (hh) :
    (cc0_scoped1.slice (Rect.unit (s := S4) (k0_off12 (wW k.val)) S1.size hh)).squeeze S_ squeezes_S1_S_ = csm (Ring.sl 4 k.val) := csm_congr (off12_eq k) _
@[sl_canon] theorem slotW (k : Fin k0_t1_loop.trips) (hh hs) :
    (bufM.slice (Rect.unit (s := S4x512x2048) (k0_off13 (wW k.val)) S1x512x2048.size hh) hs).squeeze S512x2048 squeezes_S1x512x2048_S512x2048 = rslot (Ring.sl 4 k.val) := rslot_congr (off13_eq k) _ _
@[sl_canon] theorem grpW (k : Fin k0_t1_loop.trips) (hh hs) :
    aM.slice (Rect.unit (s := S8192x2048) (k0_off14 (wB k.val)) S512x2048.size hh) hs = grp (Ring.bk 16 k.val) := grp_congr (off14_eq k) _ _
@[sl_canon] theorem semI (k : Fin k0_t1_loop.trips) (hk : k.val + 3 < 16) (hh) :
    (cc0_scoped1.slice (Rect.unit (s := S4) (k0_off9 (wI k.val)) S1.size hh)).squeeze S_ squeezes_S1_S_ = csm (Ring.sl 4 (k.val + 3)) := csm_congr (facts_issue k hk).2.1 _
@[sl_canon] theorem slotI (k : Fin k0_t1_loop.trips) (hk : k.val + 3 < 16) (hh hs) :
    (bufM.slice (Rect.unit (s := S4x512x2048) (k0_off10 (wI k.val)) S1x512x2048.size hh) hs).squeeze S512x2048 squeezes_S1x512x2048_S512x2048 = rslot (Ring.sl 4 (k.val + 3)) := rslot_congr (facts_issue k hk).2.2.1 _ _
@[sl_canon] theorem grpI (k : Fin k0_t1_loop.trips) (hk : k.val + 3 < 16) (hh hs) :
    aM.slice (Rect.unit (s := S8192x2048) (k0_off11 (wB k.val)) S512x2048.size hh) hs = grp (Ring.bk 16 (k.val + 3)) := grp_congr (facts_issue k hk).2.2.2 _ _

end Cert.KernelIdeal.Body
-- ==== Proof.Pieces.lean ====
/-
  The separation-logic pieces of the ring: a block of `x` at home, a slot held, a slot's semaphore, a slot in flight;
  and the values a trip computes from the block it has waited for.
-/
module

public import proofs.«01_k».proof.Proof.Words
public import proofs.«01_k».proof.Proof.Gen.KernelIdeal.Skeleton
public import Idealize.ShloMosaic.Lib.Pipeline.FrameSuffix
public import Idealize.ShloMosaic.Lib.WritesUnit
public import Idealize.ShloMosaic.Lib.Pipeline.Value

@[expose] public section

set_option maxRecDepth 16384

noncomputable section

namespace Cert.KernelIdeal.Body

open Idealize.ShloMosaic Idealize.ShloMosaic.TcCoe Idealize.SL.Sem
open Idealize.SL Idealize.SL.BI Idealize.SL.ProofMode Idealize.SL.RA
open Idealize.SL.BI.BIBase Idealize.SL.BI.Laws
open scoped Idealize.SL.BI
open Cert.KernelIdeal Cert.KernelIdeal.Gen

variable {F : FTy → Type} [FloatOps F]

abbrev UU (nD : Nat) (τ : Topo) : Type := Pipeline.UD sig nD τ
local notation "𝕄" => MT nD τ sig Unit (Elt F) ℕ (UU nD τ) ℕ
abbrev 𝒱₀ : Variants := Variants.none

section Pieces
variable (c : Dev nD) (XA : Buf (Elt F) (aM.view.loc (c : Thread nD τ)))

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
/-- Block `b` at home: held on its elements at `x`'s contents. -/
abbrev homeP (b : Fin 16) : sProp 𝕄 := (grp b).view.loc (c : Thread nD τ) ↦[(grp b).view.set]{fullShare} XA
/-- Block `b`'s words as a slot's payload. -/
abbrev payload (b : Fin 16) : S512x2048.Idx → Elt F .f32 := ReadAs.same.apply ((grp b).view.read (Elt F) XA)
/-- What block `b`'s transfer leaves in slot `s` over prior contents `f`: the block, written whole. -/
abbrev landed (s : Fin 4) (b : Fin 16) (f : Buf (Elt F) ((rslot s).view.loc (c : Thread nD τ))) : Buf (Elt F) ((rslot s).view.loc (c : Thread nD τ)) :=
  (rslot s).view.writes (Elt F) f [⟨Rect.whole S512x2048, payload c XA b⟩]
/-- A block's transfer moves 131072 units on its semaphore. -/
abbrev NN : ℕ := 131072
/-- Slot `s` in flight with block `b`, issued over `f`. -/
abbrev flightP (s : Fin 4) (b : Fin 16) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- The ring before trip `k`. -/
abbrev ringAt (k : ℕ) : sProp 𝕄 :=
  Ring.At (NB := 16) (C := fun s => Buf (Elt F) ((rslot s).view.loc (c : Thread nD τ))) 3 (cellP (F := F) c) (slotP c) (homeP c XA) (flightP c XA) k

end Pieces

/-! ## The values -/

/-- Block `k` of `x`, as the load of its slot returns it. -/
def slab {c : Dev nD} (XA : Buf (Elt F) (aM.view.loc (c : Thread nD τ))) (k : ℕ) : Vec F S1x512x2048 .f32 :=
  fun j => payload c XA (Ring.bk 16 k) (fun a => match a with | ⟨0, _⟩ => j 1 | ⟨1, _⟩ => j 2)

section Values
variable {c : Dev nD} (XA : Buf (Elt F) (aM.view.loc (c : Thread nD τ))) (w : Vec F S2048x64 .f32) (b : Vec F S1x64 .f32)

abbrev lanes : IVec S512x64 32 := iota .tc S512x64 32 [1] iota_S512x64_d1_w32
/-- The routing probabilities of block `k`'s rows. -/
def prob (k : ℕ) : FVec F S512x64 .f32 := k0_pay2 (slab XA k) w b
/-- The first and second choices of block `k`'s rows, and their probabilities. -/
def idsBlk (k : ℕ) : IVec S512x2 32 := k0_pay7 (prob XA w b k) lanes (k0_pay3 (slab XA k) w b) (k0_pay5 (slab XA k) w b)
def valsBlk (k : ℕ) : FVec F S512x2 .f32 := k0_pay8 (prob XA w b k) lanes (k0_pay4 (slab XA k) w b) (k0_pay5 (slab XA k) w b)
/-- The column sums of the probabilities over the blocks before `k`; -/
def psumAt : ℕ → FVec F S1x64 .f32
  | 0 => k0_pay11
  | k + 1 => k0_pay9 (prob XA w b k) (psumAt k)
/-- and how often each column was the first choice. -/
def cntAt : ℕ → FVec F S1x64 .f32
  | 0 => k0_pay12
  | k + 1 => k0_pay10 lanes (k0_pay3 (slab XA k) w b) (cntAt k)

/-- Row `512 k + r` of an output is block `k`'s row `r`. -/
def blkIdx (i : S8192x2.Idx) : S512x2.Idx := fun a => match a with
  | ⟨0, _⟩ => ⟨(i 0).val % 512, Nat.mod_lt _ (by decide)⟩
  | ⟨1, _⟩ => i 1
/-- The first two results, row by row. -/
def idsAll : IVec S8192x2 32 := fun i => idsBlk XA w b ((i 0).val / 512) (blkIdx i)
def valsAll : FVec F S8192x2 .f32 := fun i => valsBlk XA w b ((i 0).val / 512) (blkIdx i)

variable {XA w b} {k : ℕ} {X : Vec F S1x512x2048 .f32} {w' : Vec F S2048x64 .f32} {b' : Vec F S1x64 .f32}
/-- What a trip computes from its loads, once these are block `k`, the weights and the bias. -/
theorem ids_of (hX : X = slab XA k) (hw : w' = w) (hb : b' = b) :
    k0_pay7 (k0_pay2 X w' b') lanes (k0_pay3 X w' b') (k0_pay5 X w' b') = idsBlk XA w b k := by
  subst hX hw hb; rfl
theorem vals_of (hX : X = slab XA k) (hw : w' = w) (hb : b' = b) :
    k0_pay8 (k0_pay2 X w' b') lanes (k0_pay4 X w' b') (k0_pay5 X w' b') = valsBlk XA w b k := by
  subst hX hw hb; rfl
theorem psum_of {q : FVec F S1x64 .f32} (hX : X = slab XA k) (hw : w' = w) (hb : b' = b) (hq : q = psumAt XA w b k) :
    k0_pay9 (k0_pay2 X w' b') q = psumAt XA w b (k + 1) := by
  subst hX hw hb hq; rfl
theorem cnt_of {q : FVec F S1x64 .f32} (hX : X = slab XA k) (hw : w' = w) (hb : b' = b) (hq : q = cntAt XA w b k) :
    k0_pay10 lanes (k0_pay3 X w' b') q = cntAt XA w b (k + 1) := by
  subst hX hw hb hq; rfl
end Values

/-- Reading slot `s` through the whole buffer where block `k` has landed gives block `k`. -/
theorem read_landed {c : Dev nD} (XA : Buf (Elt F) (aM.view.loc (c : Thread nD τ))) (s : Fin 4) (k : ℕ) (off : Fin 3 → Nat)
    (e : off = slotOff s) (hh) (f : Buf (Elt F) ((rslot s).view.loc (c : Thread nD τ))) :
    bufM.view.readAt (Elt F) (Rect.unit (s := S4x512x2048) off S1x512x2048.size hh).toLoadRect (landed c XA s (Ring.bk 16 k) f) = slab XA k := by
  subst e
  have h := View.read_writes_whole (rslot s).view f (payload c XA (Ring.bk 16 k))
  funext j
  refine Eq.trans ?_ (congrFun h (fun a => match a with | ⟨0, _⟩ => j 1 | ⟨1, _⟩ => j 2))
  show bufM.view.read (Elt F) _ _ = bufM.view.read (Elt F) _ _
  refine congrArg _ ?_
  funext a
  apply Fin.ext
  have hj : Fin.cons (⟨0, Nat.one_pos⟩ : Fin 1) (fun a : Fin 2 => match a with | ⟨0, _⟩ => j 1 | ⟨1, _⟩ => j 2) = j := by
    funext a
    match a with
    | ⟨0, _⟩ => exact Fin.ext (by have : (j 0).val < 1 := (j 0).isLt; show 0 = (j 0).val; omega)
    | ⟨1, _⟩ => rfl
    | ⟨2, _⟩ => rfl
  refine congrArg (fun q => ((Rect.unit (s := S4x512x2048) (slotOff s) S1x512x2048.size hh).idx q a).val) (Eq.trans hj.symm ?_)
  exact (Shape.reshapeEquiv_cons_one (d := ![512, 2048]) (by decide +kernel) _).symm

/-- A store of rows `512 k … 512 k + 511` extends the rows already right. -/
theorem rows_step {α : EltTy} (M : Memref sig .tc .vmem S8192x2 α) (c : Dev nD) (G : S8192x2.Idx → Elt F α) (k : ℕ) (hk : k < 16)
    (off : Fin 2 → Nat) (e : off = ![512 * k, 0]) (hh) (f : Buf (Elt F) (M.view.loc (c : Thread nD τ))) (p : S512x2.Idx → Elt F α)
    (hp : ∀ i : S8192x2.Idx, (i 0).val / 512 = k → p (blkIdx i) = G i)
    (hf : ∀ i : S8192x2.Idx, (i 0).val < 512 * k → M.view.read (Elt F) f i = G i) :
    ∀ i : S8192x2.Idx, (i 0).val < 512 * (k + 1) →
      M.view.read (Elt F) (M.view.writes (Elt F) f [⟨Rect.unit (s := S8192x2) off S512x2.size hh, p⟩]) i = G i := by
  intro i hi
  by_cases h : (i 0).val < 512 * k
  · exact (View.read_writes_cons_rows_of_not_mem M.view f hh p [] i e (W := 512) rfl (.inl h)).trans (hf i h)
  · refine (View.read_writes_cons_rows_of_mem M.view f hh p [] i (blkIdx i) e ?_ rfl).trans (hp i (by omega))
    show (i 0).val = 512 * k + (i 0).val % 512
    omega

/-- A load of a whole staged operand is its read. -/
theorem load_whole2 {α : EltTy} {d0 d1 : ℕ} {sp : Space} (M : Memref sig .tc sp ⟨2, ![d0, d1]⟩ α) (c : Dev nD)
    (f : Buf (Elt F) (M.view.loc (c : Thread nD τ))) (hh) :
    M.view.readAt (Elt F) (Rect.unit (s := ⟨2, ![d0, d1]⟩) ![0, 0] ![d0, d1] hh).toLoadRect f = M.view.read (Elt F) f := by
  rw [View.readAt_eq_ld]
  exact View.ld_unit_zero (funext fun a => by match a with | ⟨0, _⟩ => rfl | ⟨1, _⟩ => rfl) _ _

/-- A store over a whole buffer leaves its payload. -/
theorem store_whole2 {α : EltTy} {d0 d1 : ℕ} {sp : Space} (M : Memref sig .tc sp ⟨2, ![d0, d1]⟩ α) (c : Dev nD)
    (f : Buf (Elt F) (M.view.loc (c : Thread nD τ))) (hh) (p : (⟨2, ![d0, d1]⟩ : Shape).Idx → Elt F α) :
    M.view.read (Elt F) (M.view.writes (Elt F) f [⟨Rect.unit (s := ⟨2, ![d0, d1]⟩) ![0, 0] ![d0, d1] hh, p⟩]) = p := by
  funext i
  exact View.read_writes_cons_rows_of_mem M.view f hh p [] i i rfl (Nat.zero_add _).symm rfl

end Cert.KernelIdeal.Body
-- ==== Proof.Trip.lean ====
/-
  One trip of the pipelined loop, at a symbolic trip number: the block issued three ahead (while there is one), the
  block of this trip waited for, its rows' choices stored, the column sums carried on.
-/
module

public import proofs.«01_k».proof.Proof.Pieces

@[expose] public section

set_option maxRecDepth 16384

noncomputable section

namespace Cert.KernelIdeal.Body

open Idealize.ShloMosaic Idealize.ShloMosaic.TcCoe Idealize.SL.Sem
open Idealize.SL Idealize.SL.BI Idealize.SL.ProofMode Idealize.SL.RA
open Idealize.SL.BI.BIBase Idealize.SL.BI.Laws
open scoped Idealize.SL.BI
open Cert.KernelIdeal Cert.KernelIdeal.Gen

variable {F : FTy → Type} [FloatOps F]
local notation "𝕄" => MT nD τ sig Unit (Elt F) ℕ (UU nD τ) ℕ

section Trip
variable (c : Dev nD) (XA : Buf (Elt F) (aM.view.loc (c : Thread nD τ)))
  (arg1 : Memref sig .tc .vmem S2048x64 .f32) (harg1 : arg1.IsWhole)
  (arg2 : Memref sig .tc .vmem S1x64 .f32) (harg2 : arg2.IsWhole)
  (arg3 : Memref sig .tc .vmem S8192x2 .i32) (harg3 : arg3.IsWhole)
  (arg4 : Memref sig .tc .vmem S8192x2 .f32) (harg4 : arg4.IsWhole)
  (arg5 : Memref sig .tc .vmem S1x1 .f32) (harg5 : arg5.IsWhole)
  (arg6 : Memref sig .tc .vmem S1x64 .f32) (harg6 : arg6.IsWhole)
  (arg7 : Memref sig .tc .vmem S1x64 .f32) (harg7 : arg7.IsWhole)
  (g1 : Buf (Elt F) (arg1.view.loc (c : Thread nD τ))) (g2 : Buf (Elt F) (arg2.view.loc (c : Thread nD τ)))

abbrev ptP {sp : Space} {s : Shape} {e : EltTy} (M : Memref sig .tc sp s e) (f : Buf (Elt F) (M.view.loc (c : Thread nD τ))) : sProp 𝕄 :=
  M.view.loc (c : Thread nD τ) ↦[M.view.set]{fullShare} f

/-- The two staged operands as the body reads them. -/
abbrev wV : Vec F S2048x64 .f32 := arg1.view.read (Elt F) g1
abbrev bV : Vec F S1x64 .f32 := arg2.view.read (Elt F) g2

/-- Before trip `k`: the operands; the rows of the blocks before `k` right in both outputs; the running sums; the ring. -/
def resAt (k : ℕ) : sProp 𝕄 :=
  iprop(ptP c arg1 g1 ∗ ptP c arg2 g2
    ∗ (∃ f, ptP c arg3 f ∗ ⌜∀ i : S8192x2.Idx, (i 0).val < 512 * k → arg3.view.read (Elt F) f i = idsAll XA (wV c arg1 g1) (bV c arg2 g2) i⌝)
    ∗ (∃ f, ptP c arg4 f ∗ ⌜∀ i : S8192x2.Idx, (i 0).val < 512 * k → arg4.view.read (Elt F) f i = valsAll XA (wV c arg1 g1) (bV c arg2 g2) i⌝)
    ∗ (∃ f, ptP c arg6 f ∗ ⌜arg6.view.read (Elt F) f = psumAt XA (wV c arg1 g1) (bV c arg2 g2) k⌝)
    ∗ (∃ f, ptP c arg7 f ∗ ⌜arg7.view.read (Elt F) f = cntAt XA (wV c arg1 g1) (bV c arg2 g2) k⌝)
    ∗ (∃ W, owes (c : Thread nD τ) 0 W)
    ∗ ringAt c XA k)

abbrev tripG (v24 v29 v36 : BitVec 32) (k : Fin k0_t1_loop.trips) : Prog (TpuEff nD τ sig (Elt F) Λ₀ .tc) (BitVec 32 × BitVec 32 × BitVec 32) :=
  k0_t1_body (F := F) aM (Memref.isWhole_whole _) arg1 harg1 arg2 harg2 arg3 harg3 arg4 harg4 arg5 harg5 arg6 harg6 arg7 harg7
    bufM (Memref.isWhole_whole _) cc0_scoped1 v24 v29 v36 k (wI k.val, wW k.val, wB k.val)

set_option backward.proofsInPublic true in
/-- A trip that issues. -/
theorem trip_issue (v24 v29 v36 : BitVec 32) (k : Fin k0_t1_loop.trips) (hk : k.val + 3 < 16) :
    resAt c XA arg1 arg2 arg3 arg4 arg6 arg7 g1 g2 k.val
      ⊢ wp frame (wpE (defs₀ (F := F)) 𝒱₀ (c : Thread nD τ) none) Set.univ
        (tripG arg1 harg1 arg2 harg2 arg3 harg3 arg4 harg4 arg5 harg5 arg6 harg6 arg7 harg7 v24 v29 v36 k)
        (fun acc => iprop(⌜acc = (wI (k.val + 1), wW (k.val + 1), wB (k.val + 1))⌝ ∗ resAt c XA arg1 arg2 arg3 arg4 arg6 arg7 g1 g2 (k.val + 1))) := by
  have hc3 := (facts_issue k hk).1
  have hc4 := cond4_eq k
  have hw2 := chk2_of k
  have hw1 := chk1_of k
  unfold resAt ringAt
  rw [Ring.At4_here _ _ _ _ _ hk, Ring.At4_next _ _ _ _ _ hk, Ring.slotAt4_next0 _ _ _ _ (by omega), Ring.slotAt4_next1 _ _ _ _ (by omega), Ring.slotAt4_next2 _ _ _ _ hk]

  iintro ⟨H1, H2, ⟨%f3, H3, %h3⟩, ⟨%f4, H4, %h4⟩, ⟨%f6, H6, %h6⟩, ⟨%f7, H7, %h7⟩, ⟨%W, HW⟩, ⟨Hg, Hrest⟩, ⟨%e0, HF0⟩, HF1, HF2, Hc, ⟨%es, Hs⟩⟩
  dsimp only [tripG]
  sl_unfold [k0_t1_body]
  sl_exec
  sl_step
  isplitr
  · ipureintro
    sl_unfold_words
    clear * - hk
    revert hk; revert k
    decide +kernel
  isplitl [H1]; · iexact H1
  isplitl [H2]; · iexact H2
  isplitl [H3]
  · iexists _; isplitl [H3]; · iexact H3
    ipureintro
    refine rows_step arg3 c _ k.val (by omega) _ (off16_eq k) _ f3 _ ?_ h3
    intro i hi
    exact (congrFun (ids_of (read_landed XA (Ring.sl 4 k.val) k.val _ (off15_eq k) _ _) (load_whole2 arg1 c g1 _) (load_whole2 arg2 c g2 _)) (blkIdx i)).trans
      (congrArg (fun n => idsBlk XA (wV c arg1 g1) (bV c arg2 g2) n (blkIdx i)) hi.symm)
  isplitl [H4]
  · iexists _; isplitl [H4]; · iexact H4
    ipureintro
    refine rows_step arg4 c _ k.val (by omega) _ (off16_eq k) _ f4 _ ?_ h4
    intro i hi
    exact (congrFun (vals_of (read_landed XA (Ring.sl 4 k.val) k.val _ (off15_eq k) _ _) (load_whole2 arg1 c g1 _) (load_whole2 arg2 c g2 _)) (blkIdx i)).trans
      (congrArg (fun n => valsBlk XA (wV c arg1 g1) (bV c arg2 g2) n (blkIdx i)) hi.symm)
  isplitl [H6]
  · iexists _; isplitl [H6]; · iexact H6
    ipureintro
    exact (store_whole2 arg6 c f6 _ _).trans (psum_of (read_landed XA (Ring.sl 4 k.val) k.val _ (off15_eq k) _ _) (load_whole2 arg1 c g1 _) (load_whole2 arg2 c g2 _) ((load_whole2 arg6 c f6 _).trans h6))
  isplitl [H7]
  · iexists _; isplitl [H7]; · iexact H7
    ipureintro
    exact (store_whole2 arg7 c f7 _ _).trans (cnt_of (read_landed XA (Ring.sl 4 k.val) k.val _ (off15_eq k) _ _) (load_whole2 arg1 c g1 _) (load_whole2 arg2 c g2 _) ((load_whole2 arg7 c f7 _).trans h7))
  isplitl [HW]; · iexists _; iexact HW
  isplitl [HF0_src Hrest]
  · isplitl [HF0_src]; · iexact HF0_src
    iexact Hrest
  isplitl [HF1]; · iexact HF1
  isplitl [HF2]; · iexact HF2
  isplitl [Hc]; · iexists es; iexact Hc
  isplitl [HF0]; · iexact HF0
  iexists _; iexact HF0_dst

theorem trip_tail (v24 v29 v36 : BitVec 32) (k : Fin k0_t1_loop.trips) (hk : 16 ≤ k.val + 3) :
    resAt c XA arg1 arg2 arg3 arg4 arg6 arg7 g1 g2 k.val
      ⊢ wp frame (wpE (defs₀ (F := F)) 𝒱₀ (c : Thread nD τ) none) Set.univ
        (tripG arg1 harg1 arg2 harg2 arg3 harg3 arg4 harg4 arg5 harg5 arg6 harg6 arg7 harg7 v24 v29 v36 k)
        (fun acc => iprop(⌜acc = (wI (k.val + 1), wW (k.val + 1), wB (k.val + 1))⌝ ∗ resAt c XA arg1 arg2 arg3 arg4 arg6 arg7 g1 g2 (k.val + 1))) := by
  have hkt : k.val < 16 := lt_of_lt_of_eq k.isLt trips_eq
  have hc3 := facts_idle k (by omega)
  have hc4 := cond4_eq k
  have hw2 := chk2_of k
  have hw1 := chk1_of k
  unfold resAt ringAt
  rw [Ring.At4_here_tail _ _ _ _ _ hkt, Ring.At4_next_tail _ _ _ _ _ hk hkt, Ring.slotAt4_tail_role, Ring.slotAt4_tail_role1]
  iintro ⟨H1, H2, ⟨%f3, H3, %h3⟩, ⟨%f4, H4, %h4⟩, ⟨%f6, H6, %h6⟩, ⟨%f7, H7, %h7⟩, ⟨%W, HW⟩, Hrest, ⟨%e0, HF0⟩, HF1, HF2, Hf⟩
  dsimp only [tripG]
  sl_unfold [k0_t1_body]
  sl_exec
  sl_step
  isplitr
  · ipureintro
    sl_unfold_words
    clear * - hk
    revert hk; revert k
    decide +kernel
  isplitl [H1]; · iexact H1
  isplitl [H2]; · iexact H2
  isplitl [H3]
  · iexists _; isplitl [H3]; · iexact H3
    ipureintro
    refine rows_step arg3 c _ k.val (by omega) _ (off16_eq k) _ f3 _ ?_ h3
    intro i hi
    exact (congrFun (ids_of (read_landed XA (Ring.sl 4 k.val) k.val _ (off15_eq k) _ _) (load_whole2 arg1 c g1 _) (load_whole2 arg2 c g2 _)) (blkIdx i)).trans
      (congrArg (fun n => idsBlk XA (wV c arg1 g1) (bV c arg2 g2) n (blkIdx i)) hi.symm)
  isplitl [H4]
  · iexists _; isplitl [H4]; · iexact H4
    ipureintro
    refine rows_step arg4 c _ k.val (by omega) _ (off16_eq k) _ f4 _ ?_ h4
    intro i hi
    exact (congrFun (vals_of (read_landed XA (Ring.sl 4 k.val) k.val _ (off15_eq k) _ _) (load_whole2 arg1 c g1 _) (load_whole2 arg2 c g2 _)) (blkIdx i)).trans
      (congrArg (fun n => valsBlk XA (wV c arg1 g1) (bV c arg2 g2) n (blkIdx i)) hi.symm)
  isplitl [H6]
  · iexists _; isplitl [H6]; · iexact H6
    ipureintro
    exact (store_whole2 arg6 c f6 _ _).trans (psum_of (read_landed XA (Ring.sl 4 k.val) k.val _ (off15_eq k) _ _) (load_whole2 arg1 c g1 _) (load_whole2 arg2 c g2 _) ((load_whole2 arg6 c f6 _).trans h6))
  isplitl [H7]
  · iexists _; isplitl [H7]; · iexact H7
    ipureintro
    exact (store_whole2 arg7 c f7 _ _).trans (cnt_of (read_landed XA (Ring.sl 4 k.val) k.val _ (off15_eq k) _ _) (load_whole2 arg1 c g1 _) (load_whole2 arg2 c g2 _) ((load_whole2 arg7 c f7 _).trans h7))
  isplitl [HW]; · iexists _; iexact HW
  isplitl [HF0_src Hrest]
  · isplitl [HF0_src]; · iexact HF0_src
    iexact Hrest
  isplitl [HF1]; · iexact HF1
  isplitl [HF2]; · iexact HF2
  isplitl [Hf]; · iexact Hf
  isplitl [HF0]; · iexact HF0
  iexists _; iexact HF0_dst

end Trip
end Cert.KernelIdeal.Body
-- ==== Proof.Body.lean ====
/-
  The kernel body: three blocks issued, the sixteen trips, the third result from the two running sums.
-/
module

public import proofs.«01_k».proof.Proof.Trip

@[expose] public section

set_option maxRecDepth 16384

noncomputable section

namespace Cert.KernelIdeal.Body

open Idealize.ShloMosaic Idealize.ShloMosaic.TcCoe Idealize.SL.Sem
open Idealize.SL Idealize.SL.BI Idealize.SL.ProofMode Idealize.SL.RA
open Idealize.SL.BI.BIBase Idealize.SL.BI.Laws
open scoped Idealize.SL.BI
open Cert.KernelIdeal Cert.KernelIdeal.Gen

variable {F : FTy → Type} [FloatOps F]
local notation "𝕄" => MT nD τ sig Unit (Elt F) ℕ (UU nD τ) ℕ

section Loop
variable (c : Dev nD) (XA : Buf (Elt F) (aM.view.loc (c : Thread nD τ)))
  (arg1 : Memref sig .tc .vmem S2048x64 .f32) (harg1 : arg1.IsWhole)
  (arg2 : Memref sig .tc .vmem S1x64 .f32) (harg2 : arg2.IsWhole)
  (arg3 : Memref sig .tc .vmem S8192x2 .i32) (harg3 : arg3.IsWhole)
  (arg4 : Memref sig .tc .vmem S8192x2 .f32) (harg4 : arg4.IsWhole)
  (arg5 : Memref sig .tc .vmem S1x1 .f32) (harg5 : arg5.IsWhole)
  (arg6 : Memref sig .tc .vmem S1x64 .f32) (harg6 : arg6.IsWhole)
  (arg7 : Memref sig .tc .vmem S1x64 .f32) (harg7 : arg7.IsWhole)
  (g1 : Buf (Elt F) (arg1.view.loc (c : Thread nD τ))) (g2 : Buf (Elt F) (arg2.view.loc (c : Thread nD τ)))

/-- One trip, whether it issues or not. -/
theorem trip (v24 v29 v36 : BitVec 32) (k : Fin k0_t1_loop.trips) :
    resAt c XA arg1 arg2 arg3 arg4 arg6 arg7 g1 g2 k.val
      ⊢ wp frame (wpE (defs₀ (F := F)) 𝒱₀ (c : Thread nD τ) none) Set.univ
        (tripG arg1 harg1 arg2 harg2 arg3 harg3 arg4 harg4 arg5 harg5 arg6 harg6 arg7 harg7 v24 v29 v36 k)
        (fun acc => iprop(⌜acc = (wI (k.val + 1), wW (k.val + 1), wB (k.val + 1))⌝ ∗ resAt c XA arg1 arg2 arg3 arg4 arg6 arg7 g1 g2 (k.val + 1))) := by
  by_cases hk : k.val + 3 < 16
  · exact trip_issue c XA arg1 harg1 arg2 harg2 arg3 harg3 arg4 harg4 arg5 harg5 arg6 harg6 arg7 harg7 g1 g2 v24 v29 v36 k hk
  · exact trip_tail c XA arg1 harg1 arg2 harg2 arg3 harg3 arg4 harg4 arg5 harg5 arg6 harg6 arg7 harg7 g1 g2 v24 v29 v36 k (by omega)

/-- The loop, from the resources before trip 0 to those after trip 15. -/
theorem loopRun (v24 v29 v36 : BitVec 32) (init : BitVec 32 × BitVec 32 × BitVec 32) (hi : init = (wI 0, wW 0, wB 0))
    {β : Type} {kk : BitVec 32 × BitVec 32 × BitVec 32 → Prog (TpuEff nD τ sig (Elt F) Λ₀ .tc) β} {Q : β → sProp 𝕄} :
    resAt c XA arg1 arg2 arg3 arg4 arg6 arg7 g1 g2 0
      ⊢ iprop((∀ acc, resAt c XA arg1 arg2 arg3 arg4 arg6 arg7 g1 g2 16 -∗ wp frame (wpE (defs₀ (F := F)) 𝒱₀ (c : Thread nD τ) none) Set.univ (kk acc) Q)
        -∗ wp frame (wpE (defs₀ (F := F)) 𝒱₀ (c : Thread nD τ) none) Set.univ
          (Scf.Loop.for k0_t1_loop k0_t1_ok init (k0_t1_body (F := F) aM (Memref.isWhole_whole _) arg1 harg1 arg2 harg2 arg3 harg3 arg4 harg4 arg5 harg5 arg6 harg6 arg7 harg7
            bufM (Memref.isWhole_whole _) cc0_scoped1 v24 v29 v36) >>= kk) Q) := by
  iintro H HK
  iapply (Scf.wp_for_bind frame (wpE (defs₀ (F := F)) 𝒱₀ (c : Thread nD τ) none) Set.univ k0_t1_loop.lb k0_t1_loop.ub k0_t1_loop.st k0_t1_ok init _
    (fun k acc => iprop(⌜acc = (wI k, wW k, wB k)⌝ ∗ resAt c XA arg1 arg2 arg3 arg4 arg6 arg7 g1 g2 k)) ?step) $$ [H]
  case step =>
    intro k acc
    iintro ⟨%e, H⟩
    subst e
    iapply (trip c XA arg1 harg1 arg2 harg2 arg3 harg3 arg4 harg4 arg5 harg5 arg6 harg6 arg7 harg7 g1 g2 v24 v29 v36 k) $$ H
  · isplitr
    · ipureintro; exact hi
    iexact H
  iintro %acc ⟨-, H⟩
  iapply HK
  iexact H

/-- What the body holds at entry, -/
def PRE (g3 : Buf (Elt F) (arg3.view.loc (c : Thread nD τ))) (g4 : Buf (Elt F) (arg4.view.loc (c : Thread nD τ)))
    (g5 : Buf (Elt F) (arg5.view.loc (c : Thread nD τ))) (g6 : Buf (Elt F) (arg6.view.loc (c : Thread nD τ)))
    (g7 : Buf (Elt F) (arg7.view.loc (c : Thread nD τ))) (W : Waits sig Unit) : sProp 𝕄 :=
  iprop(ptP c arg1 g1 ∗ ptP c arg2 g2 ∗ ptP c arg3 g3 ∗ ptP c arg4 g4 ∗ ptP c arg5 g5 ∗ ptP c arg6 g6 ∗ ptP c arg7 g7
    ∗ owes (c : Thread nD τ) 0 W ∗ Ring.At₀ (cellP (F := F) c) (slotP c) (homeP c XA))

/-- the third result, -/
def auxOf {c : Dev nD} (XA : Buf (Elt F) (aM.view.loc (c : Thread nD τ))) (w : Vec F S2048x64 .f32) (b : Vec F S1x64 .f32) : FVec F S1x1 .f32 := k0_pay1 (psumAt XA w b 16) (cntAt XA w b 16)

/-- and what it holds at exit. -/
def POST : sProp 𝕄 :=
  iprop(ptP c arg1 g1 ∗ ptP c arg2 g2
    ∗ (∃ f, ptP c arg3 f ∗ ⌜arg3.view.read (Elt F) f = idsAll XA (wV c arg1 g1) (bV c arg2 g2)⌝)
    ∗ (∃ f, ptP c arg4 f ∗ ⌜arg4.view.read (Elt F) f = valsAll XA (wV c arg1 g1) (bV c arg2 g2)⌝)
    ∗ (∃ f, ptP c arg5 f ∗ ⌜arg5.view.read (Elt F) f = auxOf XA (wV c arg1 g1) (bV c arg2 g2)⌝)
    ∗ (∃ f, ptP c arg6 f) ∗ (∃ f, ptP c arg7 f)
    ∗ (∃ W, owes (c : Thread nD τ) 0 W) ∗ Ring.At₀ (cellP (F := F) c) (slotP c) (homeP c XA))

abbrev bodyG : Prog (TpuEff nD τ sig (Elt F) Λ₀ .tc) PUnit :=
  cc0__outer (F := F) aM (Memref.isWhole_whole _) arg1 harg1 arg2 harg2 arg3 harg3 arg4 harg4 arg5 harg5 arg6 harg6 arg7 harg7
    bufM (Memref.isWhole_whole _) cc0_scoped1

set_option backward.proofsInPublic true in
theorem bodyRun (g3 g4 g5 g6 g7 W) (Q : PUnit → sProp 𝕄) :
    iprop(PRE c XA arg1 arg2 arg3 arg4 arg5 arg6 arg7 g1 g2 g3 g4 g5 g6 g7 W ∗ (POST c XA arg1 arg2 arg3 arg4 arg5 arg6 arg7 g1 g2 -∗ Q ⟨⟩))
      ⊢ wp frame (wpE (defs₀ (F := F)) 𝒱₀ (c : Thread nD τ) none) Set.univ
        (bodyG arg1 harg1 arg2 harg2 arg3 harg3 arg4 harg4 arg5 harg5 arg6 harg6 arg7 harg7) Q := by
  unfold PRE
  rw [Ring.At₀_eq4 _ _ _ (by decide)]
  iintro ⟨⟨H1, H2, H3, H4, H5, H6, H7, HW, ⟨Hg0, Hg1, Hg2, Hg3, Hrest⟩, ⟨Hc0, ⟨%f0, Hs0⟩⟩, ⟨Hc1, ⟨%f1, Hs1⟩⟩, ⟨Hc2, ⟨%f2, Hs2⟩⟩, Hf3⟩, Hk⟩
  have h1 : k0_cond1 = 1#1 := by decide
  have h2 : k0_cond2 = 1#1 := by decide
  sl_exec
  ihave Hinv : resAt c XA arg1 arg2 arg3 arg4 arg6 arg7 g1 g2 0 $$ [H1 H2 H3 H4 H6 H7 HW Hg3 Hrest Hf3 Hc0 Hc1 Hc2]
  · unfold resAt ringAt
    rw [Ring.At4_here _ _ _ _ _ (by decide)]
    isplitl [H1]; · iexact H1
    isplitl [H2]; · iexact H2
    isplitl [H3]
    · iexists g3; isplitl [H3]; · iexact H3
      ipureintro; intro i hi; omega
    isplitl [H4]
    · iexists g4; isplitl [H4]; · iexact H4
      ipureintro; intro i hi; omega
    isplitl [H6]
    · iexists _; isplitl [H6]; · iexact H6
      ipureintro; exact store_whole2 arg6 c _ _ _
    isplitl [H7]
    · iexists _; isplitl [H7]; · iexact H7
      ipureintro; exact store_whole2 arg7 c _ _ _
    isplitl [HW]; · iexists _; iexact HW
    isplitl [Hg3 Hrest]
    · isplitl [Hg3]; · iexact Hg3
      iexact Hrest
    isplitl [Hc0]; · iexists f0; iexact Hc0
    isplitl [Hc1]; · iexists f1; iexact Hc1
    isplitl [Hc2]; · iexists f2; iexact Hc2
    iexact Hf3
  iapply (loopRun c XA arg1 harg1 arg2 harg2 arg3 harg3 arg4 harg4 arg5 harg5 arg6 harg6 arg7 harg7 g1 g2 _ _ _ _ (by decide)) $$ Hinv
  unfold resAt ringAt
  rw [Ring.At_past_eq_free _ _ _ _ _ 16 le_rfl]
  iintro %acc ⟨H1, H2, ⟨%f3, H3, %h3⟩, ⟨%f4, H4, %h4⟩, ⟨%f6, H6, %h6⟩, ⟨%f7, H7, %h7⟩, ⟨%W', HW⟩, Hring⟩
  sl_exec
  sl_step
  iapply Hk
  unfold POST
  isplitl [H1]; · iexact H1
  isplitl [H2]; · iexact H2
  isplitl [H3]
  · iexists _; isplitl [H3]; · iexact H3
    ipureintro; exact funext fun i => h3 i (by have : (i 0).val < 8192 := (i 0).isLt; omega)
  isplitl [H4]
  · iexists _; isplitl [H4]; · iexact H4
    ipureintro; exact funext fun i => h4 i (by have : (i 0).val < 8192 := (i 0).isLt; omega)
  isplitl [H5]
  · iexists _; isplitl [H5]; · iexact H5
    ipureintro
    refine (store_whole2 arg5 c g5 _ _).trans ?_
    exact congrArg₂ k0_pay1 ((load_whole2 arg6 c f6 _).trans h6) ((load_whole2 arg7 c f7 _).trans h7)
  isplitl [H6]; · iexists _; iexact H6
  isplitl [H7]; · iexists _; iexact H7
  isplitl [HW]; · iexists _; iexact HW
  unfold Ring.At₀
  iexact Hring

end Loop
end Cert.KernelIdeal.Body
-- ==== Proof.Launch.lean ====
/-
  The launch: `x` is its sixteen blocks and the ring buffer its four slots; the body obligation; the run of @main, with
  what it leaves in the three results.
-/
module

public import proofs.«01_k».proof.Proof.Body
public import proofs.«01_k».proof.Proof.Gen.KernelIdeal.Frame
public import proofs.«01_k».proof.Proof.Gen.KernelIdeal.Points

@[expose] public section

set_option maxRecDepth 16384

noncomputable section

namespace Cert.KernelIdeal.Body

open Idealize.ShloMosaic Idealize.ShloMosaic.TcCoe Idealize.SL.Sem
open Idealize.SL Idealize.SL.BI Idealize.SL.ProofMode Idealize.SL.RA
open Idealize.SL.BI.BIBase Idealize.SL.BI.Laws
open scoped Idealize.SL.BI
open Cert.KernelIdeal Cert.KernelIdeal.Gen
open Idealize.ShloMosaic.Pipeline (Dat BodyObligation)

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

abbrev osem : Fin 4 → SemLoc sig := fun s => .dma (csm s).sem
theorem ownSemFacts : Pipeline.OwnSemFacts spec0 osem := by decide

/-! ## The elements of `x`'s blocks and of the buffer's slots -/

abbrev GG (b : Fin 16) : Finset S8192x2048.Idx := (Rect.unit (s := S8192x2048) (grpOff b) S512x2048.size (grpOff_inb b)).set
abbrev SS (s : Fin 4) : Finset S4x512x2048.Idx := (Rect.unit (s := S4x512x2048) (slotOff s) S1x512x2048.size (slotOff_inb s)).set

omit [FloatOps F] in
theorem grp_set (b : Fin 16) : (grp b : Memref sig .tc .hbm _ _).view.set = GG b := View.set_slice_whole _ _
omit [FloatOps F] in
theorem rslot_set (s : Fin 4) : (rslot s : Memref sig .tc .vmem _ _).view.set = SS s := (View.set_reshape _ _).trans (View.set_slice_whole _ _)

theorem mem_GG (b : Fin 16) (y : S8192x2048.Idx) : y ∈ GG b ↔ (y 0).val / 512 = b.val := by
  rw [Rect.mem_set_unit]
  have h1 : (y 1).val < 2048 := (y 1).isLt
  constructor
  · intro H
    have a0 : 512 * b.val ≤ (y 0).val ∧ (y 0).val < 512 * b.val + 512 := H 0
    omega
  · intro H i
    match i with
    | ⟨0, _⟩ => show 512 * b.val ≤ (y 0).val ∧ (y 0).val < 512 * b.val + 512; omega
    | ⟨1, _⟩ => show 0 ≤ (y 1).val ∧ (y 1).val < 0 + 2048; omega
theorem mem_SS (s : Fin 4) (y : S4x512x2048.Idx) : y ∈ SS s ↔ (y 0).val = s.val := by
  rw [Rect.mem_set_unit]
  have h1 : (y 1).val < 512 := (y 1).isLt
  have h2 : (y 2).val < 2048 := (y 2).isLt
  constructor
  · intro H
    have a0 : s.val ≤ (y 0).val ∧ (y 0).val < s.val + 1 := H 0
    omega
  · intro H i
    match i with
    | ⟨0, _⟩ => show s.val ≤ (y 0).val ∧ (y 0).val < s.val + 1; omega
    | ⟨1, _⟩ => show 0 ≤ (y 1).val ∧ (y 1).val < 0 + 512; omega
    | ⟨2, _⟩ => show 0 ≤ (y 2).val ∧ (y 2).val < 0 + 2048; omega
theorem GG_disjoint : ∀ b b' : Fin 16, b ≠ b' → Disjoint (GG b) (GG b') := fun b b' hne =>
  Finset.disjoint_left.mpr fun y hy hy' => hne (Fin.ext (((mem_GG b y).mp hy).symm.trans ((mem_GG b' y).mp hy')))
theorem SS_disjoint : ∀ s s' : Fin 4, s ≠ s' → Disjoint (SS s) (SS s') := fun s s' hne =>
  Finset.disjoint_left.mpr fun y hy hy' => hne (Fin.ext (((mem_SS s y).mp hy).symm.trans ((mem_SS s' y).mp hy')))
theorem GG_cover : (Finset.univ : Finset (Fin 16)).biUnion GG = Finset.univ := by
  refine Finset.eq_univ_of_forall fun y => Finset.mem_biUnion.mpr ?_
  have h : (y 0).val < 8192 := (y 0).isLt
  exact ⟨⟨(y 0).val / 512, by omega⟩, Finset.mem_univ _, (mem_GG _ y).mpr rfl⟩
theorem SS_cover : (Finset.univ : Finset (Fin 4)).biUnion SS = Finset.univ := by
  refine Finset.eq_univ_of_forall fun y => Finset.mem_biUnion.mpr ?_
  have h : (y 0).val < 4 := (y 0).isLt
  exact ⟨⟨(y 0).val, h⟩, Finset.mem_univ _, (mem_SS _ y).mpr rfl⟩

/-- `x` whole is its sixteen blocks at home. -/
theorem x_eq (c : Dev nD) (X : Buf (Elt F) (aM.view.loc (c : Thread nD τ))) :
    (((c : Thread nD τ).loc main_arg0) ↦{fullShare} X : sProp 𝕄) = bigSep Finset.univ (homeP c X) := by
  rw [Ring.pointsTo_blocks (ℓ := (c : Thread nD τ).loc main_arg0) GG GG_disjoint GG_cover]
  exact bigSep_congr fun b _ => by rw [← grp_set]; rfl

omit [FloatOps F] in
theorem slotP_eq (c : Dev nD) (s : Fin 4) (f) : slotP c s f = (((c : Thread nD τ).loc cc0_scoped0) ↦[SS s]{fullShare} f : sProp 𝕄) :=
  congrArg (fun S => (_ ↦[S]{fullShare} f : sProp 𝕄)) (rslot_set s)
/-- The ring buffer whole is its four slots, and back. -/
theorem buf_split (c : Dev nD) :
    iprop(∃ f : Buf (Elt F) ((c : Thread nD τ).loc cc0_scoped0), ((c : Thread nD τ).loc cc0_scoped0) ↦{fullShare} f)
      ⊢ (iprop((∃ f, slotP c 0 f) ∗ (∃ f, slotP c 1 f) ∗ (∃ f, slotP c 2 f) ∗ ∃ f, slotP c 3 f) : sProp 𝕄) :=
  Ring.slots4_split (ℓ := (c : Thread nD τ).loc cc0_scoped0) SS SS_disjoint SS_cover _ _ _ _
    (slotP_eq c 0) (slotP_eq c 1) (slotP_eq c 2) (slotP_eq c 3)
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scoped0), ((c : Thread nD τ).loc cc0_scoped0) ↦{fullShare} f) : sProp 𝕄) :=
  Ring.slots4_join (ℓ := (c : Thread nD τ).loc cc0_scoped0) SS SS_disjoint SS_cover _ _ _ _
    (slotP_eq c 0) (slotP_eq c 1) (slotP_eq c 2) (slotP_eq c 3)

omit [FloatOps F] in
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3) := by
  unfold Pipeline.ownSems0; rw [Ring.bigSep_fin4]

abbrev H0 : Finset (Ref sig .tc) := {main_arg0}
abbrev XA (c : Dev nD) : Buf (Elt F) (aM.view.loc (c : Thread nD τ)) := Gen.V m c main_arg0
/-- What the launch hands the body besides the windows: the scoped buffers, the cells, `x`. -/
def Φ (c : Dev nD) : sProp 𝕄 := Pipeline.ΦD osem spec0 H0 (Gen.V m) c
theorem Φ_eq (c : Dev nD) : Φ m c
    = iprop(((∃ f, ((c : Thread nD τ).loc cc0_scratch0) ↦{fullShare} f) ∗ (∃ f, ((c : Thread nD τ).loc cc0_scratch1) ↦{fullShare} f)
          ∗ (∃ f : Buf (Elt F) ((c : Thread nD τ).loc cc0_scoped0), ((c : Thread nD τ).loc cc0_scoped0) ↦{fullShare} f))
        ∗ (∃ r, prngReg c r) ∗ (cellP c 0 ∗ cellP c 1 ∗ cellP c 2 ∗ cellP c 3) ∗ bigSep Finset.univ (homeP c (XA m c))) := by
  unfold Φ
  rw [Pipeline.ΦD_eq, scopedRest0_eq, ownSems0_eq, ← x_eq c (XA m c)]
  rw [show (H0 : Finset (Ref sig .tc)) = {main_arg0} from rfl, bigSep_singleton]

/-! ## The pipeline's proof data -/

abbrev wI0 (c : Dev nD) (t : Fin cfg0.N) : Vec F S2048x64 .f32 := Gen.iblk m c 0 t
abbrev bI0 (c : Dev nD) (t : Fin cfg0.N) : Vec F S1x64 .f32 := Gen.iblk m c 1 t

def dats (_ : Fin 1) (c : Dev nD) : Dat τ (Elt F) Unit ℕ (UU nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => idsAll (XA m c) (wI0 m c t) (bI0 m c t)
    | ⟨3, _⟩ => valsAll (XA m c) (wI0 m c t) (bI0 m c t)
    | ⟨4, _⟩ => auxOf (XA m c) (wI0 m c t) (bI0 m c t)
  Φ _ := Φ m c
  q _ := fullShare
  owed _ := 0

theorem before_w0 (c : Dev nD) (t : Fin cfg0.N) (d) : (dats m 0 c).before 0 t d = Gen.iblk m c 0 t := by
  unfold Dat.before; rw [if_pos (fetch0_0 t)]; unfold Dat.fetched Dat.blockOf Gen.iblk; dsimp only [dats]; rfl
theorem before_w1 (c : Dev nD) (t : Fin cfg0.N) (d) : (dats m 0 c).before 1 t d = Gen.iblk m c 1 t := by
  unfold Dat.before; rw [if_pos (fetch0_1 t)]; unfold Dat.fetched Dat.blockOf Gen.iblk; dsimp only [dats]; rfl
theorem after_w0 (c : Dev nD) (t : Fin cfg0.N) : (dats m 0 c).after 0 t = Gen.iblk m c 0 t := by dsimp only [dats]
theorem after_w1 (c : Dev nD) (t : Fin cfg0.N) : (dats m 0 c).after 1 t = Gen.iblk m c 1 t := by dsimp only [dats]
theorem after_w2 (c : Dev nD) (t : Fin cfg0.N) : (dats m 0 c).after 2 t = idsAll (XA m c) (wI0 m c t) (bI0 m c t) := by dsimp only [dats]
theorem after_w3 (c : Dev nD) (t : Fin cfg0.N) : (dats m 0 c).after 3 t = valsAll (XA m c) (wI0 m c t) (bI0 m c t) := by dsimp only [dats]
theorem after_w4 (c : Dev nD) (t : Fin cfg0.N) : (dats m 0 c).after 4 t = auxOf (XA m c) (wI0 m c t) (bI0 m c t) := by dsimp only [dats]

abbrev s6 : Memref sig .tc .vmem S1x64 .f32 := Memref.whole cc0_scratch0
abbrev s7 : Memref sig .tc .vmem S1x64 .f32 := Memref.whole cc0_scratch1

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) s6 (Memref.isWhole_whole _) s7 (Memref.isWhole_whole _) := rfl
theorem prog_eq (t : Fin cfg0.N) : (defs₀ (F := F)) .tc cfg0.body (cfg0.bodyArgs t (cfg0.slots t))
    = bodyG (win0_0.stage (cfg0.slots t 0)) (hstage0_0 0) (win0_1.stage (cfg0.slots t 1)) (hstage0_1 0) (win0_2.stage (cfg0.slots t 2)) (hstage0_2 0)
        (win0_3.stage (cfg0.slots t 3)) (hstage0_3 0) (win0_4.stage (cfg0.slots t 4)) (hstage0_4 0) s6 (Memref.isWhole_whole _) s7 (Memref.isWhole_whole _) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  rw [Φ_eq]
  unfold owns
  iintro ⟨⟨⟨⟨%g6, H6⟩, ⟨%g7, H7⟩, Hbuf⟩, Hprng, ⟨Hc0, Hc1, Hc2, Hc3⟩, Hh⟩, ⟨%W, -, HW⟩, ⟨%d0, %g1, %hg1, H1⟩, ⟨%d1, %g2, %hg2, H2⟩, ⟨%d2, %g3, -, H3⟩, ⟨%d3, %g4, -, H4⟩, ⟨%d4, %g5, -, H5⟩⟩
  ihave Hs := (buf_split c) $$ Hbuf
  icases Hs with ⟨Hs0, Hs1, Hs2, Hs3⟩
  sl_rw [prog_eq t]
  iapply (bodyRun c (XA m c) (st0_0 t) (hstage0_0 0) (st0_1 t) (hstage0_1 0) (st0_2 t) (hstage0_2 0) (st0_3 t) (hstage0_3 0) (st0_4 t) (hstage0_4 0)
    s6 (Memref.isWhole_whole _) s7 (Memref.isWhole_whole _) g1 g2 g3 g4 g5 g6 g7 W)
  isplitl [H1 H2 H3 H4 H5 H6 H7 HW Hh Hs0 Hs1 Hs2 Hs3 Hc0 Hc1 Hc2 Hc3]
  · unfold PRE Ring.At₀
    rw [Ring.bigSep_fin4]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HW]; · iexact HW
    isplitl [Hh]; · iexact Hh
    isplitl [Hc0 Hs0]
    · isplitl [Hc0]; · iexact Hc0
      iexact Hs0
    isplitl [Hc1 Hs1]
    · isplitl [Hc1]; · iexact Hc1
      iexact Hs1
    isplitl [Hc2 Hs2]
    · isplitl [Hc2]; · iexact Hc2
      iexact Hs2
    isplitl [Hc3]; · iexact Hc3
    iexact Hs3
  unfold POST Ring.At₀
  have hw : wV c (st0_0 t) g1 = wI0 m c t := hg1
  have hb : bV c (st0_1 t) g2 = bI0 m c t := hg2
  rw [Ring.bigSep_fin4, hw, hb]
  iintro ⟨H1, H2, ⟨%f3, H3, %h3⟩, ⟨%f4, H4, %h4⟩, ⟨%f5, H5, %h5⟩, H6, H7, ⟨%W', HW⟩, Hh, ⟨Hc0, Hs0⟩, ⟨Hc1, Hs1⟩, ⟨Hc2, Hs2⟩, ⟨Hc3, Hs3⟩⟩
  isplitl [H6 H7 Hs0 Hs1 Hs2 Hs3 Hprng Hc0 Hc1 Hc2 Hc3 Hh]
  · isplitl [H6 H7 Hs0 Hs1 Hs2 Hs3]
    · isplitl [H6]; · iexact H6
      isplitl [H7]; · iexact H7
      iapply (buf_join c)
      isplitl [Hs0]; · iexact Hs0
      isplitl [Hs1]; · iexact Hs1
      isplitl [Hs2]; · iexact Hs2
      iexact Hs3
    isplitl [Hprng]; · iexact Hprng
    isplitl [Hc0 Hc1 Hc2 Hc3]
    · isplitl [Hc0]; · iexact Hc0
      isplitl [Hc1]; · iexact Hc1
      isplitl [Hc2]; · iexact Hc2
      iexact Hc3
    iexact Hh
  isplitl [HW]
  · iexists W'; isplitr; · ipureintro; exact fun _ _ => Or.inl trivial
    iexact HW
  isplitl [H1]
  · iexists g1; isplitr; · ipureintro; exact hg1
    iexact H1
  isplitl [H2]
  · iexists g2; isplitr; · ipureintro; exact hg2
    iexact H2
  isplitl [H3]
  · iexists f3; isplitr; · ipureintro; exact h3
    iexact H3
  isplitl [H4]
  · iexists f4; isplitr; · ipureintro; exact h4
    iexact H4
  iexists f5; isplitr; · ipureintro; exact h5
  iexact H5

end Launch
end Cert.KernelIdeal.Body
-- ==== Proof.Run.lean ====
/-
  The run of @main over any floats: arguments as launched, counters at zero, and what the three results hold.
-/
module

public import proofs.«01_k».proof.Proof.Launch

@[expose] public section

set_option maxRecDepth 16384

noncomputable section

namespace Cert.KernelIdeal.Body

open Idealize.ShloMosaic Idealize.ShloMosaic.TcCoe Idealize.SL.Sem
open Idealize.SL Idealize.SL.BI Idealize.SL.ProofMode Idealize.SL.RA
open Idealize.SL.BI.BIBase Idealize.SL.BI.Laws
open scoped Idealize.SL.BI
open Cert.KernelIdeal Cert.KernelIdeal.Gen
open Idealize.ShloMosaic.Pipeline (Dat BodyObligation)

variable {F : FTy → Type} [FloatOps F]
local notation "𝕄" => MT nD τ sig Unit (Elt F) ℕ (UU nD τ) ℕ

section Run
variable (m : (ℓ : Loc nD τ sig) → Buf (Elt F) ℓ) (ρ : Dev nD → PrngReg)

/-! ## The windows' blocks are their arrays -/

abbrev wA (c : Dev nD) : Vec F S2048x64 .f32 := m ((c : Thread nD τ).loc main_arg1)
/-- The bias as the kernel reads it: the argument reshaped to one row. -/
abbrev bA (c : Dev nD) : Vec F S1x64 .f32 := shapeCast S1x64 (m ((c : Thread nD τ).loc main_arg2) : Vec F S64 .f32) shapeCasts_S64_S1x64
abbrev xA (c : Dev nD) : Buf (Elt F) (aM.view.loc (c : Thread nD τ)) := m ((c : Thread nD τ).loc main_arg0)

theorem V_bias (c : Dev nD) : (Gen.V m c main_call0_v0 : Vec F S1x64 .f32) = bA m c := by
  show StableHlo.after (List.flatten [hostOps0]) (fun b => m (c, b)) (Proc.devRef .tc main_call0_v0) = _
  simp only [hostOps0, List.flatten_cons, List.flatten_nil, List.append_nil, StableHlo.after_cons, StableHlo.after_nil]
  refine (StableHlo.reshape_result _ _ _ _ _ _ _).trans ?_
  rfl

theorem wI0_eq (c : Dev nD) (t : Fin cfg0.N) : wI0 m c t = wA m c := by
  obtain rfl := fin_N0 t
  have hz : (fun a => win0_0.index t0_0 a * main_arg1.ty.shape.size a) = fun _ => 0 := funext fun a => by fin_cases a <;> decide
  refine (Memref.read_access_unit_zero (Elt F) main_arg1 hz (fun a => by rw [congrFun hz a]; simp) (Gen.V m c main_arg1)).trans ?_
  exact Gen.V_main_arg1 m c
theorem bI0_eq (c : Dev nD) (t : Fin cfg0.N) : bI0 m c t = bA m c := by
  obtain rfl := fin_N0 t
  have hz : (fun a => win0_1.index t0_0 a * main_call0_v0.ty.shape.size a) = fun _ => 0 := funext fun a => by fin_cases a <;> decide
  refine (Memref.read_access_unit_zero (Elt F) main_call0_v0 hz (fun a => by rw [congrFun hz a]; simp) (Gen.V m c main_call0_v0)).trans ?_
  exact V_bias m c
theorem XA_eq (c : Dev nD) : XA m c = xA m c := Gen.V_main_arg0 m c

/-! ## What the results hold -/

abbrev idsR (c : Dev nD) : IVec S8192x2 32 := idsAll (xA m c) (wA m c) (bA m c)
abbrev valsR (c : Dev nD) : Vec F S8192x2 .f32 := valsAll (xA m c) (wA m c) (bA m c)
abbrev auxR (c : Dev nD) : Vec F S1x1 .f32 := auxOf (xA m c) (wA m c) (bA m c)

theorem flushed_ids (c : Dev nD) (t : Fin cfg0.N) (_ : (cfg0.win 2).flush t = true) :
    (dats m 0 c).flushed 2 t = ((cfg0.win 2).blk t).view.read (Elt F) (idsR m c : Buf (Elt F) ((c : Thread nD τ).loc main_v0_0)) := by
  obtain rfl := fin_N0 t
  show (cfg0.win 2).cut (grid0.coords t0_0) ((dats m 0 c).after 2 t0_0) = _
  rw [after_w2, wI0_eq, bI0_eq, XA_eq]
  have hz : (fun a => win0_2.index t0_0 a * main_v0_0.ty.shape.size a) = fun _ => 0 := funext fun a => by fin_cases a <;> decide
  exact (Memref.read_access_unit_zero (Elt F) main_v0_0 hz (fun a => by rw [congrFun hz a]; simp) (idsR m c)).symm
theorem final_ids (c : Dev nD) : (dats m 0 c).arrAt 2 cfg0.N = (idsR m c : Buf (Elt F) ((c : Thread nD τ).loc main_v0_0)) :=
  (dats m 0 c).arrAt_eq_of_cover 2 _ (flushed_ids m c) fun i =>
    ⟨t0_0, flush0_2 t0_0, by
      have hz : ∀ a, win0_2.index t0_0 a * main_v0_0.ty.shape.size a = 0 := fun a => by fin_cases a <;> decide
      show i ∈ ((View.whole main_v0_0).slice (win0_2.rect t0_0)).set
      rw [View.set_slice_whole, Rect.mem_set_unit]
      intro a
      have h0 : (i 0 : Nat) < 8192 := (i 0).isLt
      have h1 : (i 1 : Nat) < 2 := (i 1).isLt
      match a with
      | ⟨0, _⟩ => show win0_2.index t0_0 0 * 8192 ≤ (i 0 : Nat) ∧ (i 0 : Nat) < win0_2.index t0_0 0 * 8192 + 8192; have : win0_2.index t0_0 0 * 8192 = 0 := hz 0; omega
      | ⟨1, _⟩ => show win0_2.index t0_0 1 * 2 ≤ (i 1 : Nat) ∧ (i 1 : Nat) < win0_2.index t0_0 1 * 2 + 2; have : win0_2.index t0_0 1 * 2 = 0 := hz 1; omega⟩

theorem flushed_vals (c : Dev nD) (t : Fin cfg0.N) (_ : (cfg0.win 3).flush t = true) :
    (dats m 0 c).flushed 3 t = ((cfg0.win 3).blk t).view.read (Elt F) (valsR m c : Buf (Elt F) ((c : Thread nD τ).loc main_v0_1)) := by
  obtain rfl := fin_N0 t
  show (cfg0.win 3).cut (grid0.coords t0_0) ((dats m 0 c).after 3 t0_0) = _
  rw [after_w3, wI0_eq, bI0_eq, XA_eq]
  have hz : (fun a => win0_3.index t0_0 a * main_v0_1.ty.shape.size a) = fun _ => 0 := funext fun a => by fin_cases a <;> decide
  exact (Memref.read_access_unit_zero (Elt F) main_v0_1 hz (fun a => by rw [congrFun hz a]; simp) (valsR m c)).symm
theorem final_vals (c : Dev nD) : (dats m 0 c).arrAt 3 cfg0.N = (valsR m c : Buf (Elt F) ((c : Thread nD τ).loc main_v0_1)) :=
  (dats m 0 c).arrAt_eq_of_cover 3 _ (flushed_vals m c) fun i =>
    ⟨t0_0, flush0_3 t0_0, by
      have hz : ∀ a, win0_3.index t0_0 a * main_v0_1.ty.shape.size a = 0 := fun a => by fin_cases a <;> decide
      show i ∈ ((View.whole main_v0_1).slice (win0_3.rect t0_0)).set
      rw [View.set_slice_whole, Rect.mem_set_unit]
      intro a
      have h0 : (i 0 : Nat) < 8192 := (i 0).isLt
      have h1 : (i 1 : Nat) < 2 := (i 1).isLt
      match a with
      | ⟨0, _⟩ => show win0_3.index t0_0 0 * 8192 ≤ (i 0 : Nat) ∧ (i 0 : Nat) < win0_3.index t0_0 0 * 8192 + 8192; have : win0_3.index t0_0 0 * 8192 = 0 := hz 0; omega
      | ⟨1, _⟩ => show win0_3.index t0_0 1 * 2 ≤ (i 1 : Nat) ∧ (i 1 : Nat) < win0_3.index t0_0 1 * 2 + 2; have : win0_3.index t0_0 1 * 2 = 0 := hz 1; omega⟩

theorem flushed_aux (c : Dev nD) (t : Fin cfg0.N) (_ : (cfg0.win 4).flush t = true) :
    (dats m 0 c).flushed 4 t = ((cfg0.win 4).blk t).view.read (Elt F) (auxR m c : Buf (Elt F) ((c : Thread nD τ).loc main_call0_v1_2)) := by
  obtain rfl := fin_N0 t
  show (cfg0.win 4).cut (grid0.coords t0_0) ((dats m 0 c).after 4 t0_0) = _
  rw [after_w4, wI0_eq, bI0_eq, XA_eq]
  have hz : (fun a => win0_4.index t0_0 a * main_call0_v1_2.ty.shape.size a) = fun _ => 0 := funext fun a => by fin_cases a <;> decide
  exact (Memref.read_access_unit_zero (Elt F) main_call0_v1_2 hz (fun a => by rw [congrFun hz a]; simp) (auxR m c)).symm
theorem final_aux (c : Dev nD) : (dats m 0 c).arrAt 4 cfg0.N = (auxR m c : Buf (Elt F) ((c : Thread nD τ).loc main_call0_v1_2)) :=
  (dats m 0 c).arrAt_eq_of_cover 4 _ (flushed_aux m c) fun i =>
    ⟨t0_0, flush0_4 t0_0, by
      have hz : ∀ a, win0_4.index t0_0 a * main_call0_v1_2.ty.shape.size a = 0 := fun a => by fin_cases a <;> decide
      show i ∈ ((View.whole main_call0_v1_2).slice (win0_4.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_0 0 * 1 ≤ (i 0 : Nat) ∧ (i 0 : Nat) < win0_4.index t0_0 0 * 1 + 1; have : win0_4.index t0_0 0 * 1 = 0 := hz 0; omega
      | ⟨1, _⟩ => show win0_4.index t0_0 1 * 1 ≤ (i 1 : Nat) ∧ (i 1 : Nat) < win0_4.index t0_0 1 * 1 + 1; have : win0_4.index t0_0 1 * 1 = 0 := hz 1; omega⟩

/-! ## @main around the launch -/

theorem tail_keeps (c : Dev nD) (b : Ref sig .tc) (h1 : b ≠ main_v0_2) (h2 : ∀ w, Pipeline.arrRef spec0 w ≠ b) :
    Pipeline.afterTail₀ cfgs (dats m) 0 (Gen.V0 m) [hostOps1] c b = Gen.V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h1)),
    Pipeline.withArrays_of_ne _ c (Gen.V0 m c) _ b h2]
theorem tail_aux (c : Dev nD) : (Pipeline.afterTail₀ cfgs (dats m) 0 (Gen.V0 m) [hostOps1] c main_v0_2 : Vec F S_ .f32)
    = shapeCast S_ (auxR m c) shapeCasts_S1x1_S_ := by
  unfold Pipeline.afterTail₀
  simp only [hostOps1, List.flatten_cons, List.flatten_nil, List.append_nil, StableHlo.after_cons, StableHlo.after_nil]
  refine (StableHlo.reshape_result _ _ _ _ _ _ _).trans ?_
  have h := (Pipeline.withArrays_arr spec0 launch0.win.arr_inj c (Gen.V0 m c) (fun w => (dats m 0 c).arrAt w cfg0.N) 4).trans (final_aux m c)
  exact congrArg (fun v => shapeCast S_ (v : Vec F S1x1 .f32) shapeCasts_S1x1_S_) h

theorem sub_H : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  simp only [hostOps1, List.mem_cons, List.mem_nil_iff, or_false] at hop
  rcases hop with rfl
  intro b hb
  obtain rfl := Finset.mem_singleton.mp hb
  intro h
  rcases Finset.mem_insert.mp h with h | h
  · exact StableHlo.devRef_ne_of_ne (by decide) h
  · exact StableHlo.devRef_ne_of_ne (by decide) (Finset.mem_singleton.mp h)

/-- THE RUN: from any memory with the counters at zero, @main ends with its arguments as launched, the counters at zero
    and the three results as computed. -/
theorem run_main : θ_run (defs (F := F)) (onTc (τ := τ) (main (F := F))) ⟨m, fun _ => 0, ρ⟩ (fun r => (∀ c : Dev nD,
      (r.2.mem ((c : Thread nD τ).loc main_v0_0) = (idsR m c : Buf (Elt F) ((c : Thread nD τ).loc main_v0_0))
      ∧ r.2.mem ((c : Thread nD τ).loc main_v0_1) = (valsR m c : Buf (Elt F) ((c : Thread nD τ).loc main_v0_1))
      ∧ r.2.mem ((c : Thread nD τ).loc main_v0_2) = (shapeCast S_ (auxR m c) shapeCasts_S1x1_S_ : Buf (Elt F) ((c : Thread nD τ).loc main_v0_2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  Pipeline.θ_run_frame_dma_around cfgs (dats m) 0 launch0 osem defs₀ 𝒱₀ ownSemFacts H0 (by decide) m ρ main
    (fun c => (body_obligation m c).loose) (fun c => (dats m 0 c).share_full fun _ => rfl) (fun _ _ => rfl)
    (Gen.V0 m) [hostOps1] sub_H Gen.sfx_fresh Gen.sfx_keeps
    (Pipeline.hmain_around cfgs 0 defs₀ 𝒱₀ m main [hostOps0] [hostOps1] (by simp only [List.Forall]; exact hostOps0_sub)
      (by simp only [List.Forall]; exact Gen.hostOps0_fresh) main_chain)
    (fun _ _ => rfl) (fun _ => .rfl) (fun _ => .rfl) _ fun r h =>
    ⟨fun c => ⟨⟨((h.1 c).1 2).trans (final_ids m c), ((h.1 c).1 3).trans (final_vals m c),
        ((h.1 c).2 main_v0_2 (Pipeline.mem_restRefs_of main_v0_2 (by decide) (by decide))).trans (tail_aux m c)⟩,
      ((h.1 c).2 main_arg0 (Pipeline.mem_restRefs_of main_arg0 (by decide) (by decide))).trans ((tail_keeps m c main_arg0 (by decide) (by decide)).trans (Gen.V_main_arg0 m c)),
      ((h.1 c).1 0).trans (((dats m 0 c).arrAt_in 0 rfl _).trans (Gen.V_main_arg1 m c)),
      ((h.1 c).2 main_arg2 (Pipeline.mem_restRefs_of main_arg2 (by decide) (by decide))).trans ((tail_keeps m c main_arg2 (by decide) (by decide)).trans (Gen.V_main_arg2 m c))⟩, h.2⟩

end Run
end Cert.KernelIdeal.Body
-- ==== Proof.Rows.lean ====
/-
  One row of 64 extended reals: its greatest, the position that holds it alone, the two positions that lead it, and
  what an arg-max, a masked arg-max and a top-2 read off such a row.
-/
module

public import Idealize.ShloMosaic.Lib.Pointwise
public import Idealize.ShloMosaic.Lib.SortFacts

@[expose] public section

set_option maxRecDepth 16384

noncomputable section

namespace Cert.KernelIdeal.Values

open Idealize.ShloMosaic

theorem negInf : Ideal.ofBits .f32 0xFF800000#32 = ⊥ := by simp [Ideal.ofBits, Ideal.ieee]

theorem negOne : Ideal.ofBits .f32 0xBF800000#32 = (-1 : EReal) := IdealRules.sign_bit.ideal_negOnePat .f32

variable {p : Fin 64 → EReal} {i i₁ i₂ : Fin 64}

/-- The greatest of a row of 64. -/
def top (p : Fin 64 → EReal) : EReal := Finset.univ.fold max ⊥ p

theorem le_top (p : Fin 64 → EReal) (e : Fin 64) : p e ≤ top p :=
  (Finset.le_fold_max (p e)).2 (Or.inr ⟨e, Finset.mem_univ e, le_rfl⟩)

/-- Position `i` alone holds the greatest of the row. -/
def Best (p : Fin 64 → EReal) (i : Fin 64) : Prop := ∀ e, e ≠ i → p e < p i

theorem Best.le (h : Best p i) (e : Fin 64) : p e ≤ p i := by
  by_cases he : e = i
  · rw [he]
  · exact (h e he).le

theorem Best.top_eq (h : Best p i) : top p = p i :=
  le_antisymm ((Finset.fold_max_le (p i)).2 ⟨bot_le, fun e _ => h.le e⟩) (le_top p i)

theorem best_of_unique (h : p i = top p) (hu : ∀ e, p e = top p → e = i) : Best p i := fun e he =>
  h ▸ lt_of_le_of_ne (le_top p e) fun hh => he (hu e hh)

/-- The row with position `i` put to −1. -/
def masked (p : Fin 64 → EReal) (i : Fin 64) (e : Fin 64) : EReal := if e = i then -1 else p e

/-- Positions `i₁` and `i₂` lead the row, in that order, each strictly. -/
structure Lead (p : Fin 64 → EReal) (i₁ i₂ : Fin 64) : Prop where
  first : Best p i₁
  ne : i₂ ≠ i₁
  second : ∀ e, e ≠ i₁ → e ≠ i₂ → p e < p i₂
  pos : -1 < p i₂

theorem Lead.masked_best (h : Lead p i₁ i₂) : Best (masked p i₁) i₂ := by
  intro e he
  unfold masked
  rw [if_neg h.ne]
  split
  · exact h.pos
  · next h1 => exact h.second e h1 he

theorem Lead.masked_top (h : Lead p i₁ i₂) : top (masked p i₁) = p i₂ := by
  rw [h.masked_best.top_eq, masked, if_neg h.ne]

theorem neg_one_lt_zero : (-1 : EReal) < 0 := by
  rw [← EReal.coe_one, ← EReal.coe_neg, ← EReal.coe_zero, EReal.coe_lt_coe_iff]; norm_num

/-- A row of nonnegative entries whose greatest is held once, and whose greatest once that entry is put to −1 is held
    once, has two leading positions. -/
theorem exists_lead (hp : ∀ e, 0 ≤ p e) (h₁ : ∃! e, p e = top p)
    (h₂ : ∃! e, (if p e = top p then -1 else p e) = top fun e => if p e = top p then -1 else p e) :
    ∃ i₁ i₂, Lead p i₁ i₂ := by
  obtain ⟨i₁, h1, hu1⟩ := h₁
  have hm : (fun e => if p e = top p then (-1 : EReal) else p e) = masked p i₁ := by
    funext e
    unfold masked
    by_cases he : e = i₁
    · rw [if_pos he, if_pos (he ▸ h1)]
    · rw [if_neg he, if_neg fun hh => he (hu1 e hh)]
  have h₂' : ∃! e, masked p i₁ e = top (masked p i₁) := by rw [← hm]; exact h₂
  obtain ⟨i₂, h2, hu2⟩ := h₂'
  have hb := best_of_unique h2 fun e he => hu2 e he
  have hne : i₂ ≠ i₁ := by
    intro e
    obtain ⟨q, hq⟩ : ∃ q : Fin 64, q ≠ i₁ := by
      by_cases h0 : i₁ = 0
      · exact ⟨1, by rw [h0]; decide⟩
      · exact ⟨0, fun h => h0 h.symm⟩
    have hlt := hb q (by rw [e]; exact hq)
    rw [e] at hlt
    unfold masked at hlt
    rw [if_neg hq, if_pos rfl] at hlt
    exact absurd ((hp q).trans_lt hlt) (not_lt.2 neg_one_lt_zero.le)
  refine ⟨i₁, i₂, best_of_unique h1 fun e he => hu1 e he, hne, fun e he1 he2 => ?_, neg_one_lt_zero.trans_le (hp i₂)⟩
  have := hb e he2
  unfold masked at this
  rwa [if_neg he1, if_neg hne] at this

/-- The arg-max along the lanes reads the position that alone holds the row's greatest. -/
theorem argMax_at {n : Nat} (h : (⟨2, ![n, 64]⟩ : Shape).Reduces [1] ⟨1, ![n]⟩) (x : (⟨2, ![n, 64]⟩ : Shape).Idx → EReal)
    (r : Fin n) (hb : Best (fun e => x (ix2 r e)) i) :
    Ideal.reduceIndex .argMax 1 h x (ix1 r) = BitVec.ofNat 32 i.val := by
  have hf : ∀ j, h.drop j = ix1 r ↔ ∃ k : Fin 64, ix2 r k = j := fun j => h.fiber_r2_a1 (ix1 r) j
  unfold Ideal.reduceIndex
  have hi : ∀ (s : Finset ℕ), s = {i.val} → BitVec.ofNat 32 (s.min.getD 0) = BitVec.ofNat 32 i.val := by
    rintro s rfl; rfl
  refine hi _ ?_
  ext v
  simp only [Finset.mem_image, Finset.mem_filter, Finset.mem_univ, true_and, Finset.mem_singleton, hf, if_true]
  constructor
  · rintro ⟨_, ⟨⟨k, rfl⟩, hk⟩, rfl⟩
    by_contra hne
    exact hk (ix2 r i) ⟨i, rfl⟩ (hb k fun e => hne (by rw [e]; rfl))
  · rintro rfl
    refine ⟨ix2 r i, ⟨⟨i, rfl⟩, ?_⟩, rfl⟩
    rintro _ ⟨k, rfl⟩
    exact not_lt.2 (hb.le k)

/-- Positions compared by the entries they hold, the greater before. -/
abbrev above (p : Fin 64 → EReal) (a b : Fin 64) : Bool := Ideal.cmpTotal .gt (p a) (p b) == 1#1

theorem above_iff (a b : Fin 64) : above p a b = true ↔ p b < p a := by
  unfold above
  show (BitVec.ofBool (decide (p b < p a)) == 1#1) = true ↔ _
  by_cases h : p b < p a <;> simp [h]

theorem above_false (a b : Fin 64) : above p a b = false ↔ p a ≤ p b := by
  rw [← not_lt, ← above_iff, Bool.not_eq_true]

/-- The sort by `above` leaves no entry greater than one placed before it. -/
theorem sorted_above {a b : Fin 64} (hab : a < b) : p (sortedFrom (above p) b) ≤ p (sortedFrom (above p) a) :=
  (above_false _ _).1 (sortedFrom_noInversion (above p) (above p)
    (fun a b h => (above_false b a).2 ((above_iff a b).1 h).le) (fun _ _ h => h)
    (fun a b c h h' => (above_false a c).2 (((above_false a b).1 h).trans ((above_false b c).1 h'))) a b hab)

theorem Lead.sorted_zero (h : Lead p i₁ i₂) : sortedFrom (above p) 0 = i₁ := by
  obtain ⟨q, hq⟩ := sortedFrom_surjective (above p) i₁
  by_cases h0 : q = 0
  · rw [← h0, hq]
  · by_contra hne
    have := sorted_above (p := p) (Fin.pos_iff_ne_zero.2 h0)
    rw [hq] at this
    exact absurd (h.first _ hne) (not_lt.2 this)

theorem Lead.sorted_one (h : Lead p i₁ i₂) : sortedFrom (above p) 1 = i₂ := by
  obtain ⟨q, hq⟩ := sortedFrom_surjective (above p) i₂
  have h0 : q ≠ 0 := fun e => h.ne (by rw [← hq, e, h.sorted_zero])
  by_cases h1 : q = 1
  · rw [← h1, hq]
  · by_contra hne
    have := sorted_above (p := p) (a := 1) (b := q) (by have : q.val ≠ 0 := fun e => h0 (Fin.ext e); have : q.val ≠ 1 := fun e => h1 (Fin.ext e); exact Fin.lt_def.2 (by show 1 < q.val; omega))
    rw [hq] at this
    refine absurd (h.second _ (fun e => ?_) hne) (not_lt.2 this)
    exact absurd (sortedFrom_injective (above p) (e.trans h.sorted_zero.symm)) (by decide)

theorem along_ix2 {n m : Nat} (s : Fin n) (q k : Fin m) : (ix2 s q : (⟨2, ![n, m]⟩ : Shape).Idx).along 1 k = ix2 s k := by
  funext a
  match a with
  | ⟨0, _⟩ => rfl
  | ⟨1, _⟩ => rfl

/-- Each entry's place in its row, as a word. -/
def places (n : Nat) : IVec ⟨2, ![n, 64]⟩ 32 := fun i =>
  if hd : 1 < (⟨2, ![n, 64]⟩ : Shape).rank then iotaInDim ⟨2, ![n, 64]⟩ 32 ⟨1, hd⟩ i else 0#32

theorem places_at {n : Nat} (s : Fin n) (k : Fin 64) : places n (ix2 s k) = BitVec.ofNat 32 k.val := by
  unfold places
  rw [dif_pos (by decide : 1 < 2)]
  rfl

/-- The reference's top-2 of an array of rows of 64: the entry and the position the sort puts in place `q`. -/
theorem topK_at {n : Nat} (x : (⟨2, ![n, 64]⟩ : Shape).Idx → EReal)
    (h : (⟨2, ![n, 64]⟩ : Shape).Slices (fun _ => 0) ⟨2, ![n, 2]⟩) (s : Fin n) (q : Fin 2) :
    (Host.topK ⟨2, ![n, 2]⟩ 1 (Ideal.cmpTotal .gt) x h).1 (ix2 s q)
        = x (ix2 s (sortedFrom (above fun e => x (ix2 s e)) (q.castLE (by decide))))
      ∧ (Host.topK ⟨2, ![n, 2]⟩ 1 (Ideal.cmpTotal .gt) x h).2 (ix2 s q)
        = BitVec.ofNat 32 (sortedFrom (above fun e => x (ix2 s e)) (q.castLE (by decide))).val := by
  have hs : ∀ (y : IVec ⟨2, ![n, 64]⟩ 32) (hy : ∀ k : Fin 64, y (ix2 s k) = BitVec.ofNat 32 k.val) (j : (⟨2, ![n, 64]⟩ : Shape).Idx),
      j = ix2 s (q.castLE (by decide)) →
      (Host.sort2 ⟨2, ![n, 64]⟩ 1 (fun l r => Ideal.cmpTotal .gt l.1 r.1) x y).1 j
        = x (ix2 s (sortedFrom (above fun e => x (ix2 s e)) (q.castLE (by decide))))
      ∧ (Host.sort2 ⟨2, ![n, 64]⟩ 1 (fun l r => Ideal.cmpTotal .gt l.1 r.1) x y).2 j
        = BitVec.ofNat 32 (sortedFrom (above fun e => x (ix2 s e)) (q.castLE (by decide))).val := by
    rintro y hy _ rfl
    have hal : ∀ k : Fin 64, (ix2 s (q.castLE (by decide : 2 ≤ 64)) : (⟨2, ![n, 64]⟩ : Shape).Idx).along 1 k = ix2 s k := fun k => along_ix2 s _ k
    have e : sortedFrom (n := 64) (fun k k' => Ideal.cmpTotal .gt (x ((ix2 s (q.castLE (by decide : 2 ≤ 64)) : (⟨2, ![n, 64]⟩ : Shape).Idx).along 1 k)) (x ((ix2 s (q.castLE (by decide : 2 ≤ 64)) : (⟨2, ![n, 64]⟩ : Shape).Idx).along 1 k')) == 1#1) (q.castLE (by decide))
        = sortedFrom (above fun e => x (ix2 s e)) (q.castLE (by decide)) := by
      simp only [hal]
    unfold Host.sort2
    rw [dif_pos (by decide : 1 < 2)]
    exact ⟨congrArg x ((hal _).trans (congrArg (ix2 s) e)), (congrArg y ((hal _).trans (congrArg (ix2 s) e))).trans (hy _)⟩
  have hj : ∀ j : (⟨2, ![n, 64]⟩ : Shape).Idx, j = (fun a => ⟨0 + (ix2 s q a).val, by
      match a with
      | ⟨0, _⟩ => exact lt_of_eq_of_lt (Nat.zero_add _) s.isLt
      | ⟨1, _⟩ => exact lt_of_eq_of_lt (Nat.zero_add _) (lt_of_lt_of_le q.isLt (by decide : 2 ≤ 64))⟩) → j = ix2 s (q.castLE (by decide)) := by
    rintro _ rfl
    funext a
    match a with
    | ⟨0, _⟩ => exact Fin.ext (Nat.zero_add _)
    | ⟨1, _⟩ => exact Fin.ext (Nat.zero_add _)
  obtain ⟨a, b⟩ := hs (places n) (places_at s) _ (hj _ rfl)
  exact ⟨a, b⟩

end Cert.KernelIdeal.Values
-- ==== Proof.Probs.lean ====
/-
  The router's probabilities: the kernel's block of them and the reference's array, read at a row and an expert.
-/
module

public import proofs.«01_k».proof.Proof.Run
public import proofs.«01_k».proof.Proof.Gen.ReferenceIdeal.Run
public import proofs.«01_k».proof.Proof.Gen.Pre_no_tie
public import proofs.«01_k».proof.Proof.Rows

@[expose] public section

set_option maxRecDepth 16384

noncomputable section

namespace Cert.KernelIdeal.Values

open Idealize.ShloMosaic Idealize.ShloMosaic.TcCoe Idealize.SL.Sem
open Idealize.ShloMosaic.Pointwise

/-- The reference's logits. -/
def refLogits (x : FVec Ideal Cert.ReferenceIdeal.S8192x2048 .f32) (w : FVec Ideal Cert.ReferenceIdeal.S2048x64 .f32)
    (b : FVec Ideal Cert.ReferenceIdeal.S64 .f32) : FVec Ideal Cert.ReferenceIdeal.S8192x64 .f32 :=
  addf (Host.dotGeneral Cert.ReferenceIdeal.dot_S8192x2048_S2048x64_S8192x64_1_0_0_1_n_n none x w)
    (broadcastInDim Cert.ReferenceIdeal.S8192x64 ![0, 1] Cert.ReferenceIdeal.Gen.bcast_S1x64_S8192x64_0_1
      (broadcastInDim Cert.ReferenceIdeal.S1x64 ![1] Cert.ReferenceIdeal.Gen.bcast_S64_S1x64_1 b))

/-- The reference's logits less their row's greatest, exponentiated. -/
def refExp (x : FVec Ideal Cert.ReferenceIdeal.S8192x2048 .f32) (w : FVec Ideal Cert.ReferenceIdeal.S2048x64 .f32)
    (b : FVec Ideal Cert.ReferenceIdeal.S64 .f32) : FVec Ideal Cert.ReferenceIdeal.S8192x64 .f32 :=
  Host.exp (subf (refLogits x w b)
    (broadcastInDim Cert.ReferenceIdeal.S8192x64 ![0, 1] Cert.ReferenceIdeal.Gen.bcast_S8192x1_S8192x64_0_1
      (broadcastInDim Cert.ReferenceIdeal.S8192x1 ![0] Cert.ReferenceIdeal.Gen.bcast_S8192_S8192x1_0
        (maximumf (broadcastInDim Cert.ReferenceIdeal.S8192 ![] Cert.ReferenceIdeal.Gen.bcast_S_S8192 (constant Cert.ReferenceIdeal.S_ .f32 0xFF800000#32))
          (Host.reduce FloatOps.maximumf (refLogits x w b) (constant Cert.ReferenceIdeal.S_ .f32 0xFF800000#32)
            Cert.ReferenceIdeal.Gen.reducesTo_S8192x64_S8192_d1 Cert.ReferenceIdeal.Gen.h_S_)))))

/-- The reference's probabilities. -/
def refProb (x : FVec Ideal Cert.ReferenceIdeal.S8192x2048 .f32) (w : FVec Ideal Cert.ReferenceIdeal.S2048x64 .f32)
    (b : FVec Ideal Cert.ReferenceIdeal.S64 .f32) : FVec Ideal Cert.ReferenceIdeal.S8192x64 .f32 :=
  Host.divf (refExp x w b)
    (broadcastInDim Cert.ReferenceIdeal.S8192x64 ![0, 1] Cert.ReferenceIdeal.Gen.bcast_S8192x1_S8192x64_0_1
      (broadcastInDim Cert.ReferenceIdeal.S8192x1 ![0] Cert.ReferenceIdeal.Gen.bcast_S8192_S8192x1_0
        (Host.reduceAdd (refExp x w b) (constant Cert.ReferenceIdeal.S_ .f32 0x00000000#32)
          Cert.ReferenceIdeal.Gen.reducesTo_S8192x64_S8192_d1 Cert.ReferenceIdeal.Gen.h_S_)))

/-- A row's logit for an expert, before the greatest is taken off. -/
def lgt (x : FVec Ideal Cert.ReferenceIdeal.S8192x2048 .f32) (w : FVec Ideal Cert.ReferenceIdeal.S2048x64 .f32)
    (b : FVec Ideal Cert.ReferenceIdeal.S64 .f32) (s : Fin 8192) (e : Fin 64) : EReal :=
  (∑ d : Fin 2048, x (ix2 s d) * w (ix2 d e)) + b (ix1 e)

/-- A row's softmax. -/
def soft (l : Fin 64 → EReal) (e : Fin 64) : EReal :=
  Ideal.div (Ideal.exp (l e - top l)) (∑ k, Ideal.exp (l k - top l))

theorem refLogits_at (x : FVec Ideal Cert.ReferenceIdeal.S8192x2048 .f32) (w : FVec Ideal Cert.ReferenceIdeal.S2048x64 .f32)
    (b : FVec Ideal Cert.ReferenceIdeal.S64 .f32) (s : Fin 8192) (e : Fin 64) : refLogits x w b (ix2 s e) = lgt x w b s e := by
  pointwise [refLogits, lgt]

theorem refProb_at (x : FVec Ideal Cert.ReferenceIdeal.S8192x2048 .f32) (w : FVec Ideal Cert.ReferenceIdeal.S2048x64 .f32)
    (b : FVec Ideal Cert.ReferenceIdeal.S64 .f32) (s : Fin 8192) (e : Fin 64) : refProb x w b (ix2 s e) = soft (lgt x w b s) e := by
  pointwise [refProb, refExp, soft, top]
  simp only [refLogits_at, negInf, bot_le, max_eq_right]

open Cert.KernelIdeal Cert.KernelIdeal.Gen Cert.KernelIdeal.Body in
theorem prob_at (x : FVec Ideal S8192x2048 .f32) (w : FVec Ideal S2048x64 .f32) (b : FVec Ideal S64 .f32)
   (a : Vec Ideal S1x512x2048 .f32) (k : Fin 16) (h : ∀ (r : Fin 512) (d : Fin 2048), a (ix3 0 r d) = x (ix2 ⟨512 * k.val + r.val, by omega⟩ d)) (r : Fin 512) (e : Fin 64) :
   k0_pay2 a w (shapeCast S1x64 b shapeCasts_S64_S1x64) (ix2 r e) = soft (lgt x w b ⟨512 * k.val + r.val, by omega⟩) e := by
  pointwise [k0_pay2, soft, top, lgt]
  simp only [h, negInf]

end Cert.KernelIdeal.Values
-- ==== Proof.NoTie.lean ====
/-
  What the precondition says of each row of the probabilities: two positions lead it.
-/
module

public import proofs.«01_k».proof.Proof.Probs
public import Idealize.ShloMosaic.Lib.IndicatorCount
public import Idealize.ShloMosaic.Lib.ReduceAll

@[expose] public section

set_option maxRecDepth 16384

noncomputable section

namespace Cert.KernelIdeal.Values

open Idealize.ShloMosaic

theorem exp_nonneg (x : EReal) : 0 ≤ Ideal.exp x := by
  unfold Ideal.exp
  split
  · exact le_rfl
  · exact _root_.le_top
  · exact EReal.coe_nonneg.2 (Real.exp_pos _).le

/-- A softmax whose greatest entry is held once has no negative entry: only a row of exponentials that are all zero
    would, and its entries are all equal. -/
theorem soft_nonneg (l : Fin 64 → EReal) (h : ∃! e, soft l e = top (soft l)) (e : Fin 64) : 0 ≤ soft l e := by
  by_cases hs : ∑ k, Ideal.exp (l k - top l) = 0
  · have hz : ∀ k, Ideal.exp (l k - top l) = 0 := fun k =>
      (Finset.sum_eq_zero_iff_of_nonneg fun k _ => exp_nonneg _).1 hs k (Finset.mem_univ k)
    have hc : ∀ k, soft l k = ⊥ := fun k => by
      unfold soft Ideal.div
      rw [if_pos hs, hz k, if_neg (lt_irrefl _)]
    have ht : top (soft l) = ⊥ := le_bot_iff.1 ((Finset.fold_max_le _).2 ⟨le_rfl, fun k _ => (hc k).le⟩)
    obtain ⟨i, _, hu⟩ := h
    exact absurd ((hu 0 ((hc 0).trans ht.symm)).trans (hu 1 ((hc 1).trans ht.symm)).symm) (by decide)
  · unfold soft Ideal.div
    rw [if_neg hs]
    exact mul_nonneg (exp_nonneg _) (EReal.inv_nonneg_of_nonneg (Finset.sum_nonneg fun k _ => exp_nonneg _))

/-- A count of 64 one-bit words that is 1 counts exactly one of them. -/
theorem unique_of_count {q : Fin 64 → Prop} [DecidablePred q]
    (h : (Finset.univ : Finset (Fin 64)).fold IntOp.addi 0#32 (fun k => (BitVec.ofBool (decide (q k))).setWidth 32) = 1#32) : ∃! k, q k := by
  rw [IndicatorCount.fold_addi_setWidth_eq_card] at h
  have hc : (Finset.univ.filter fun k : Fin 64 => BitVec.ofBool (decide (q k)) = 1#1).card ≤ 64 :=
    (Finset.card_le_univ _).trans (by simp)
  have h1 : (Finset.univ.filter fun k : Fin 64 => BitVec.ofBool (decide (q k)) = 1#1).card = 1 := by
    have := congrArg BitVec.toNat h
    rw [BitVec.toNat_ofNat, Nat.mod_eq_of_lt (by omega)] at this
    exact this
  obtain ⟨i, hi⟩ := Finset.card_eq_one.1 h1
  have hm : ∀ k, q k ↔ k = i := fun k => by
    rw [← Finset.mem_singleton, ← hi, Finset.mem_filter]
    by_cases hq : q k <;> simp [hq]
  exact ⟨i, (hm i).2 rfl, fun k hk => (hm k).1 hk⟩

theorem cmpi_eq_one {x y : BitVec 32} : IntOp.cmpi .eq x y = 1#1 ↔ x = y := by
  have hb : ∀ c : Bool, BitVec.ofBool c = 1#1 ↔ c = true := by decide
  exact (hb (x == y)).trans beq_iff_eq

theorem negOne_read : id (constant (F := Ideal) Cert.Pre_no_tie.S_ .f32 0xBF800000#32) ix0 = (-1 : EReal) := negOne

/-- Under the precondition two positions lead every row of the probabilities. -/
theorem lead_of_no_tie (x : FVec Ideal Cert.ReferenceIdeal.S8192x2048 .f32) (w : FVec Ideal Cert.ReferenceIdeal.S2048x64 .f32)
    (b : FVec Ideal Cert.ReferenceIdeal.S64 .f32) (h : Cert.Pre_no_tie.fn (F := Ideal) x w b = fun _ => 1#1) (s : Fin 8192) :
    ∃ i₁ i₂, Lead (soft (lgt x w b s)) i₁ i₂ := by
  have h0 := congrFun h ix0
  have h1 : Cert.Pre_no_tie.fn_part1 (F := Ideal) (refProb x w b)
      (broadcastInDim Cert.Pre_no_tie.S8192x1 ![0] Cert.Pre_no_tie.Facts.bcast_S8192_S8192x1_0 (Host.reduce FloatOps.maximumf (refProb x w b) (constant Cert.Pre_no_tie.S_ .f32 0xFF800000#32) Cert.Pre_no_tie.Facts.reducesTo_S8192x64_S8192_d1 Cert.Pre_no_tie.Facts.h_S_))
      (cmpf .oeq (refProb x w b) (broadcastInDim Cert.Pre_no_tie.S8192x64 ![0, 1] Cert.Pre_no_tie.Facts.bcast_S8192x1_S8192x64_0_1 (broadcastInDim Cert.Pre_no_tie.S8192x1 ![0] Cert.Pre_no_tie.Facts.bcast_S8192_S8192x1_0 (Host.reduce FloatOps.maximumf (refProb x w b) (constant Cert.Pre_no_tie.S_ .f32 0xFF800000#32) Cert.Pre_no_tie.Facts.reducesTo_S8192x64_S8192_d1 Cert.Pre_no_tie.Facts.h_S_))))
      (constant Cert.Pre_no_tie.S_ .f32 0xBF800000#32) ix0 = 1#1 := h0
  have h2 := Host.reduce_andi_all _ _ _ _ _ h1 (ix1 s)
  have h3 := IntOp.andi_eq_one.1 h2
  obtain ⟨ha, hb⟩ := h3
  pointwise [Cert.Pre_no_tie.fn_where] at ha
  pointwise [Cert.Pre_no_tie.fn_where] at hb
  simp only [refProb_at, negInf, negOne_read] at ha hb
  have h₁ := unique_of_count (cmpi_eq_one.1 ha)
  have h₂ := unique_of_count (cmpi_eq_one.1 hb)
  exact exists_lead (soft_nonneg _ h₁) h₁ h₂

end Cert.KernelIdeal.Values
-- ==== Proof.Picks.lean ====
/-
  A block's results read at a row whose probabilities two positions lead: the two positions and their probabilities.
-/
module

public import proofs.«01_k».proof.Proof.NoTie

@[expose] public section

set_option maxRecDepth 16384

noncomputable section

namespace Cert.KernelIdeal.Values

open Idealize.ShloMosaic Idealize.ShloMosaic.TcCoe
open Cert.KernelIdeal Cert.KernelIdeal.Gen Cert.KernelIdeal.Body

theorem ofNat_eq_iff (e i : Fin 64) : BitVec.ofNat 32 e.val = BitVec.ofNat 32 i.val ↔ e = i := by
  revert e i; decide

theorem select_eq {α : Type} (x y : BitVec 32) (u v : α) : Scalar.select (IntOp.cmpi .eq x y) u v = if x = y then u else v := by
  show Scalar.select (BitVec.ofBool (x == y)) u v = _
  by_cases h : x = y
  · rw [if_pos h, beq_iff_eq.2 h]; rfl
  · rw [if_neg h, beq_eq_false_iff_ne.2 h]; rfl

section Block
variable {a : Vec Ideal S1x512x2048 .f32} {w : Vec Ideal S2048x64 .f32} {b : Vec Ideal S1x64 .f32} {r : Fin 512}
  {p : Fin 64 → EReal} {i₁ i₂ : Fin 64} (hp : ∀ e, k0_pay2 a w b (ix2 r e) = p e) (hl : Lead p i₁ i₂)
include hp hl

/-- The first choice. -/
theorem first_at : k0_pay3 a w b (ix1 r) = BitVec.ofNat 32 i₁.val := by
  refine argMax_at reduces_S512x64_S512 (k0_pay2 a w b) r ?_
  simpa only [hp] using hl.first

/-- The first choice's probability. -/
theorem first_val : k0_pay4 a w b (ix1 r) = p i₁ := by
  pointwise [k0_pay4]
  simp only [hp, negInf]
  exact hl.first.top_eq

theorem first_lane (e : Fin 64) : k0_pay5 a w b (ix2 r e) = BitVec.ofNat 32 i₁.val := by
  pointwise [k0_pay5]
  exact first_at hp hl

/-- The row with its first choice put to −1. -/
theorem masked_at (e : Fin 64) : k0_pay6 (k0_pay2 a w b) lanes (k0_pay5 a w b) (ix2 r e) = masked p i₁ e := by
  pointwise [k0_pay6]
  rw [first_lane hp hl, hp, negOne, select_eq]
  unfold masked
  simp only [ofNat_eq_iff]

theorem second_at : Ideal.reduceIndex .argMax 1 reduces_S512x64_S512 (k0_pay6 (k0_pay2 a w b) lanes (k0_pay5 a w b)) (ix1 r)
    = BitVec.ofNat 32 i₂.val := by
  refine argMax_at reduces_S512x64_S512 _ r ?_
  simpa only [masked_at hp hl] using hl.masked_best

/-- The block's indices at the row. -/
theorem ids_at (q : Fin 2) : k0_pay7 (k0_pay2 a w b) lanes (k0_pay3 a w b) (k0_pay5 a w b) (ix2 r q)
    = BitVec.ofNat 32 (if q = 0 then i₁ else i₂).val := by
  pointwise [k0_pay7]
  rw [first_at hp hl]
  fin_cases q
  · rfl
  · exact second_at hp hl

/-- The block's values at the row. -/
theorem vals_at (q : Fin 2) : k0_pay8 (k0_pay2 a w b) lanes (k0_pay4 a w b) (k0_pay5 a w b) (ix2 r q)
    = p (if q = 0 then i₁ else i₂) := by
  pointwise [k0_pay8]
  rw [first_val hp hl]
  simp only [masked_at hp hl, negInf]
  fin_cases q
  · rfl
  · exact hl.masked_top

end Block

end Cert.KernelIdeal.Values
-- ==== Proof.Loss.lean ====
/-
  The auxiliary loss: the reference's formula over the probabilities and first choices, and the kernel's running sums.
-/
module

public import proofs.«01_k».proof.Proof.Picks
public import Idealize.ShloMosaic.Lib.Routing.OpsPair
public import Idealize.ShloMosaic.Lib.IdealHost

@[expose] public section

set_option maxRecDepth 16384

noncomputable section

namespace Cert.KernelIdeal.Values

open Idealize.ShloMosaic Idealize.ShloMosaic.TcCoe

section Reference
open Cert.ReferenceIdeal Cert.ReferenceIdeal.Gen

/-- The first choices as the scatter takes them, a negative one counted from the end. -/
def refHard (ids : IVec S8192x2 32) : IVec S8192x1 32 :=
  broadcastInDim S8192x1 ![0] bcast_S8192_S8192x1_0
    (select (cmpi .slt (shapeCast S8192 (extractStridedSlice S8192x1 ![0, 0] ids slices_S8192x2_S8192x1_0_0) shapeCasts_S8192x1_S8192)
        (broadcastInDim S8192 ![] bcast_S_S8192 (constantI S_ 32 0#32)))
      (addi (shapeCast S8192 (extractStridedSlice S8192x1 ![0, 0] ids slices_S8192x2_S8192x1_0_0) shapeCasts_S8192x1_S8192)
        (broadcastInDim S8192 ![] bcast_S_S8192 (constantI S_ 32 64#32)))
      (shapeCast S8192 (extractStridedSlice S8192x1 ![0, 0] ids slices_S8192x2_S8192x1_0_0) shapeCasts_S8192x1_S8192))

/-- How often each expert is a row's first choice. -/
def refLoad (ids : IVec S8192x2 32) : FVec Ideal S64 .f32 :=
  Host.scatterAdd scatter_S64_S8192x1_S8192_n_0_0_1 (broadcastInDim S64 ![] bcast_S_S64 (constant S_ .f32 0x00000000#32)) (refHard ids)
    (broadcastInDim S8192 ![] bcast_S_S8192 (constant S_ .f32 0x3F800000#32))

/-- The reference's loss. -/
def refAux (P : FVec Ideal S8192x64 .f32) (ids : IVec S8192x2 32) : FVec Ideal S_ .f32 :=
  mulf (constant S_ .f32 0x42800000#32)
    (Host.reduceAdd
      (mulf (Host.divf (Host.reduceAdd P (constant S_ .f32 0x00000000#32) reducesTo_S8192x64_S64_d0 h_S_) (broadcastInDim S64 ![] bcast_S_S64 (constant S_ .f32 0x46000000#32)))
        (Host.divf (refLoad ids) (broadcastInDim S64 ![] bcast_S_S64 (constant S_ .f32 0x46000000#32))))
      (constant S_ .f32 0x00000000#32) reducesTo_S64_S_d0 h_S_)

theorem hard_nonneg (i : Fin 64) (y : BitVec 32) : Scalar.select (IntOp.cmpi .slt (BitVec.ofNat 32 i.val) 0#32) y (BitVec.ofNat 32 i.val) = BitVec.ofNat 32 i.val := by
  have h : IntOp.cmpi .slt (BitVec.ofNat 32 i.val) 0#32 = 0#1 := by revert i; decide
  rw [h]; rfl

variable {ids : IVec S8192x2 32} {j : Fin 8192 → Fin 64} (hj : ∀ s, ids (ix2 s 0) = BitVec.ofNat 32 (j s).val)
include hj

theorem refHard_at (s : Fin 8192) : refHard ids (ix2 s 0) = BitVec.ofNat 32 (j s).val := by
  pointwise [refHard]
  rw [hj]
  exact hard_nonneg (j s) _

theorem lands_at (s : Fin 8192) (e : Fin 64) :
    scatter_S64_S8192x1_S8192_n_0_0_1.resultIdx? (ix1 s) (refHard ids) = some (ix1 e) ↔ j s = e := by
  have hw : scatter_S64_S8192x1_S8192_n_0_0_1.window (ix1 s) 0 = 0 := dif_neg (by decide)
  have hs : scatter_S64_S8192x1_S8192_n_0_0_1.siIdx (ix1 s) ⟨0, by decide⟩ = ix2 s 0 := by
    funext a
    match a with
    | ⟨0, _⟩ => rfl
    | ⟨1, _⟩ => rfl
  have hst : scatter_S64_S8192x1_S8192_n_0_0_1.start (ix1 s) (refHard ids) 0 = ((j s).val : Int) := by
    refine (dif_pos (by decide)).trans ?_
    refine (congrArg (fun i => (refHard ids i).toInt) hs).trans ?_
    show (refHard ids (ix2 s 0)).toInt = _
    rw [refHard_at hj]
    generalize j s = i
    revert i; decide
  rw [Routing.resultIdx?_eq_some]
  constructor
  · intro h
    have := h 0
    rw [hw, hst] at this
    exact Fin.ext (by have h2 : ((ix1 e : S64.Idx) 0).val = e.val := rfl; omega)
  · intro h a
    match a with
    | ⟨0, _⟩ =>
      show scatter_S64_S8192x1_S8192_n_0_0_1.start (ix1 s) (refHard ids) 0 + (scatter_S64_S8192x1_S8192_n_0_0_1.window (ix1 s) 0 : Int) = _
      rw [hw, hst, h]
      exact Int.add_zero _

/-- The reference's count of an expert. -/
theorem refLoad_at (e : Fin 64) : refLoad ids (ix1 e) = ∑ s : Fin 8192, if j s = e then (1 : EReal) else 0 := by
  have h : refLoad ids (ix1 e) = 0 + ∑ i ∈ Finset.univ.filter (fun i => scatter_S64_S8192x1_S8192_n_0_0_1.resultIdx? i (refHard ids) = some (ix1 e)), (1 : EReal) := by
    show Ideal.ofBits .f32 0x00000000#32 + ∑ i ∈ _, Ideal.ofBits .f32 0x3F800000#32 = _
    rw [Ideal.ofBits_zero_f32, Ideal.ofBits_one_f32]
  rw [h, zero_add, Finset.sum_filter]
  let idxEquiv : Fin 8192 ≃ S8192.Idx :=
    { toFun := fun s => ix1 s
      invFun := fun i => (i 0 : Fin 8192)
      left_inv := fun s => rfl
      right_inv := fun i => by
        funext a
        match a with
        | ⟨0, _⟩ => rfl }
  exact (Fintype.sum_equiv idxEquiv _ _ fun s => (if_congr (lands_at hj s e) rfl rfl).symm).symm

/-- The reference's loss as one sum over the experts. -/
theorem refAux_at (P : FVec Ideal S8192x64 .f32) : refAux P ids ix0
    = Ideal.ofBits .f32 0x42800000#32 * ∑ e : Fin 64, Ideal.div (∑ s : Fin 8192, P (ix2 s e)) (Ideal.ofBits .f32 0x46000000#32)
        * Ideal.div (∑ s : Fin 8192, if j s = e then (1 : EReal) else 0) (Ideal.ofBits .f32 0x46000000#32) := by
  pointwise [refAux]
  simp only [refLoad_at hj]

end Reference

section Kernel
open Cert.KernelIdeal Cert.KernelIdeal.Gen Cert.KernelIdeal.Body

theorem pay9_at (q : FVec Ideal S512x64 .f32) (v : Vec Ideal S1x64 .f32) (e : Fin 64) :
    k0_pay9 q v (ix2 0 e) = v (ix2 0 e) + ∑ r : Fin 512, q (ix2 r e) := by
  pointwise [k0_pay9]

theorem word_one : ((BitVec.ofBool true).setWidth 32).toInt = 1 := by decide

theorem pay10_at (i : IVec S512 32) (v : Vec Ideal S1x64 .f32) (e : Fin 64) :
    k0_pay10 lanes i v (ix2 0 e) = v (ix2 0 e) + ∑ r : Fin 512, if i (ix1 r) = BitVec.ofNat 32 e.val then 1 else 0 := by
  pointwise [k0_pay10]
  refine congrArg (v (ix2 0 e) + ·) (Finset.sum_congr rfl fun r _ => ?_)
  show ((((BitVec.ofBool (BitVec.ofNat 32 e.val == i (ix1 r))).setWidth 32).toInt : ℝ) : EReal) = _
  by_cases h : i (ix1 r) = BitVec.ofNat 32 e.val
  · rw [if_pos h, beq_iff_eq.2 h.symm, word_one]; norm_num
  · rw [if_neg h, beq_eq_false_iff_ne.2 (Ne.symm h)]; norm_num

theorem pay1_at (u v : Vec Ideal S1x64 .f32) :
    k0_pay1 u v (ix2 0 0) = Ideal.ofBits .f32 0x35800000#32 * ∑ e : Fin 64, u (ix2 0 e) * v (ix2 0 e) := by
  pointwise [k0_pay1]

end Kernel

/-- A nonnegative finite factor comes out of a sum. -/
theorem mul_sum_real {n : Nat} (κ : ℝ) (hκ : 0 ≤ κ) (f : Fin n → EReal) : (κ : EReal) * ∑ e, f e = ∑ e, (κ : EReal) * f e := by
  induction n with
  | zero => simp
  | succ n ih =>
    rw [Fin.sum_univ_succ, Fin.sum_univ_succ, EReal.left_distrib_of_nonneg_of_ne_top (EReal.coe_nonneg.2 hκ) (EReal.coe_ne_top κ), ih]

/-- Dividing by 8192 is multiplying by its inverse. -/
theorem div_8192 (x : EReal) : Ideal.div x ((8192 : ℝ) : EReal) = ((8192⁻¹ : ℝ) : EReal) * x := by
  unfold Ideal.div
  rw [if_neg (by rw [← EReal.coe_zero, EReal.coe_eq_coe_iff]; norm_num), ← EReal.coe_inv, mul_comm]

/-- Scaling by a quotient on each factor and by 64 at the end is scaling once. -/
theorem scale (A C : Fin 64 → EReal) :
    Ideal.ofBits .f32 0x35800000#32 * ∑ e, A e * C e
      = Ideal.ofBits .f32 0x42800000#32 * ∑ e, Ideal.div (A e) (Ideal.ofBits .f32 0x46000000#32) * Ideal.div (C e) (Ideal.ofBits .f32 0x46000000#32) := by
  have h1 : Ideal.ofBits .f32 0x35800000#32 = ((1 / 1048576 : ℝ) : EReal) := by
    simp [Ideal.ofBits, Ideal.ieee]; rw [← EReal.coe_mul]; norm_num
  have h2 : Ideal.ofBits .f32 0x42800000#32 = ((64 : ℝ) : EReal) := by
    simp [Ideal.ofBits, Ideal.ieee]; rw [← EReal.coe_mul]; norm_num
  have h3 : Ideal.ofBits .f32 0x46000000#32 = ((8192 : ℝ) : EReal) := by
    simp [Ideal.ofBits, Ideal.ieee]; rw [← EReal.coe_mul]; norm_num
  rw [h1, h2, h3, mul_sum_real _ (by norm_num), mul_sum_real _ (by norm_num)]
  refine Finset.sum_congr rfl fun e _ => ?_
  rw [div_8192, div_8192, mul_mul_mul_comm, ← EReal.coe_mul, ← mul_assoc ((64 : ℝ) : EReal), ← EReal.coe_mul]
  norm_num

end Cert.KernelIdeal.Values
-- ==== Proof.Values.lean ====
/-
  The kernel's three results are the reference's, whenever two positions lead every row of the probabilities.
-/
module

public import proofs.«01_k».proof.Proof.Loss

@[expose] public section

set_option maxRecDepth 16384

noncomputable section

namespace Cert.KernelIdeal.Values

open Idealize.ShloMosaic Idealize.ShloMosaic.TcCoe Idealize.SL.Sem
open Cert.KernelIdeal Cert.KernelIdeal.Gen Cert.KernelIdeal.Body

/-- Row `r` of block `k`. -/
abbrev at' (k : Fin 16) (r : Fin 512) : Fin 8192 := ⟨512 * k.val + r.val, by omega⟩

theorem blk_row (s : Fin 8192) : at' ⟨s.val / 512, by omega⟩ ⟨s.val % 512, by omega⟩ = s := Fin.ext (Nat.div_add_mod _ _)

theorem blk_at (s : Fin 8192) (q : Fin 2) : blkIdx (ix2 s q) = ix2 ⟨s.val % 512, by omega⟩ q := by
  funext a
  match a with
  | ⟨0, _⟩ => rfl
  | ⟨1, _⟩ => rfl

section Whole
variable {c : Dev nD} (XA : Buf (Elt Ideal) (aM.view.loc (c : Thread nD τ))) (w : FVec Ideal S2048x64 .f32) (b : FVec Ideal S64 .f32)

/-- The bias as the kernel takes it. -/
abbrev row (b : FVec Ideal S64 .f32) : FVec Ideal S1x64 .f32 := shapeCast S1x64 b shapeCasts_S64_S1x64
/-- The probabilities of a row. -/
abbrev pr (s : Fin 8192) : Fin 64 → EReal := soft (lgt XA w b s)

theorem slab_at (k : Fin 16) (r : Fin 512) (d : Fin 2048) : slab XA k.val (ix3 0 r d) = XA (ix2 (at' k r) d) := by
  have hk : Ring.bk 16 k.val = k := by revert k; decide
  unfold slab
  rw [hk]
  refine congrArg XA ?_
  funext a
  match a with
  | ⟨0, _⟩ => exact Fin.ext (by show 512 * k.val + 1 * r.val = _; simp)
  | ⟨1, _⟩ => exact Fin.ext (by show 0 + 1 * d.val = _; simp)

theorem block_prob (k : Fin 16) (r : Fin 512) (e : Fin 64) : k0_pay2 (slab XA k.val) w (row b) (ix2 r e) = pr XA w b (at' k r) e :=
  prob_at XA w b (slab XA k.val) k (slab_at XA k) r e

theorem psum_at (n : ℕ) (e : Fin 64) : psumAt XA w (row b) n (ix2 0 e) = ∑ k ∈ Finset.range n, ∑ r : Fin 512, prob XA w (row b) k (ix2 r e) := by
  induction n with
  | zero =>
    pointwise [psumAt, k0_pay11]
    rfl
  | succ n ih => rw [Finset.sum_range_succ, ← ih]; exact pay9_at _ _ e

theorem cnt_at (n : ℕ) (e : Fin 64) : cntAt XA w (row b) n (ix2 0 e)
    = ∑ k ∈ Finset.range n, ∑ r : Fin 512, if k0_pay3 (slab XA k) w (row b) (ix1 r) = BitVec.ofNat 32 e.val then 1 else 0 := by
  induction n with
  | zero =>
    pointwise [cntAt, k0_pay12]
    rfl
  | succ n ih => rw [Finset.sum_range_succ, ← ih]; exact pay10_at _ _ e

theorem sum_blocks (f : Fin 8192 → EReal) : ∑ k : Fin 16, ∑ r : Fin 512, f (at' k r) = ∑ s, f s := by
  rw [Fin.sum_univ_tiles 16 512 rfl f]
  refine Finset.sum_congr rfl fun k _ => Finset.sum_congr rfl fun r _ => congrArg f (Fin.ext ?_)
  exact congrArg (· + r.val) (Nat.mul_comm _ _)

theorem psum_all (e : Fin 64) : psumAt XA w (row b) 16 (ix2 0 e) = ∑ s, pr XA w b s e := by
  rw [psum_at, Finset.sum_range, ← sum_blocks fun s => pr XA w b s e]
  exact Finset.sum_congr rfl fun k _ => Finset.sum_congr rfl fun r _ => block_prob XA w b k r e

variable {i₁ i₂ : Fin 8192 → Fin 64} (hl : ∀ s, Lead (pr XA w b s) (i₁ s) (i₂ s))
include hl

theorem cnt_all (e : Fin 64) : cntAt XA w (row b) 16 (ix2 0 e) = ∑ s, if i₁ s = e then (1 : EReal) else 0 := by
  rw [cnt_at, Finset.sum_range, ← sum_blocks fun s => if i₁ s = e then (1 : EReal) else 0]
  refine Finset.sum_congr rfl fun k _ => Finset.sum_congr rfl fun r _ => ?_
  rw [first_at (block_prob XA w b k r) (hl (at' k r))]
  exact if_congr (ofNat_eq_iff _ _) rfl rfl

theorem ids_all (s : Fin 8192) (q : Fin 2) : idsAll XA w (row b) (ix2 s q) = BitVec.ofNat 32 (if q = 0 then i₁ s else i₂ s).val := by
  have h := ids_at (block_prob XA w b ⟨s.val / 512, by omega⟩ ⟨s.val % 512, by omega⟩) (hl _) q
  rw [blk_row] at h
  unfold idsAll
  rw [blk_at]
  exact h

theorem vals_all (s : Fin 8192) (q : Fin 2) : valsAll XA w (row b) (ix2 s q) = pr XA w b s (if q = 0 then i₁ s else i₂ s) := by
  have h := vals_at (block_prob XA w b ⟨s.val / 512, by omega⟩ ⟨s.val % 512, by omega⟩) (hl _) q
  rw [blk_row] at h
  unfold valsAll
  rw [blk_at]
  exact h

theorem ref_all (s : Fin 8192) (q : Fin 2) :
    (Host.topK Cert.ReferenceIdeal.S8192x2 1 (Ideal.cmpTotal .gt) (refProb XA w b) Cert.ReferenceIdeal.Gen.sliceFits_S8192x64_S8192x2).1 (ix2 s q)
        = pr XA w b s (if q = 0 then i₁ s else i₂ s)
      ∧ (Host.topK Cert.ReferenceIdeal.S8192x2 1 (Ideal.cmpTotal .gt) (refProb XA w b) Cert.ReferenceIdeal.Gen.sliceFits_S8192x64_S8192x2).2 (ix2 s q)
        = BitVec.ofNat 32 (if q = 0 then i₁ s else i₂ s).val := by
  have h := topK_at (refProb XA w b) Cert.ReferenceIdeal.Gen.sliceFits_S8192x64_S8192x2 s q
  simp only [refProb_at] at h
  have hq : sortedFrom (above fun e => pr XA w b s e) (q.castLE (by decide)) = if q = 0 then i₁ s else i₂ s := by
    fin_cases q
    · exact (hl s).sorted_zero
    · exact (hl s).sorted_one
  rw [hq] at h
  exact h

theorem loss_all (ids : IVec S8192x2 32) (hj : ∀ s, ids (ix2 s 0) = BitVec.ofNat 32 (i₁ s).val) :
    auxOf XA w (row b) (ix2 0 0) = refAux (refProb XA w b) ids ix0 := by
  rw [refAux_at hj]
  refine (pay1_at _ _).trans ?_
  simp only [psum_all, cnt_all XA w b hl, refProb_at]
  exact scale _ _

end Whole

/-- The three results, under the precondition. -/
theorem results {c : Dev nD} (XA : Buf (Elt Ideal) (aM.view.loc (c : Thread nD τ))) (w : FVec Ideal S2048x64 .f32) (b : FVec Ideal S64 .f32)
    (h : Cert.Pre_no_tie.fn (F := Ideal) XA w b = fun _ => 1#1) :
    (Host.topK Cert.ReferenceIdeal.S8192x2 1 (Ideal.cmpTotal .gt) (refProb XA w b) Cert.ReferenceIdeal.Gen.sliceFits_S8192x64_S8192x2).2 = idsAll XA w (row b)
    ∧ (Host.topK Cert.ReferenceIdeal.S8192x2 1 (Ideal.cmpTotal .gt) (refProb XA w b) Cert.ReferenceIdeal.Gen.sliceFits_S8192x64_S8192x2).1 = valsAll XA w (row b)
    ∧ refAux (refProb XA w b) (Host.topK Cert.ReferenceIdeal.S8192x2 1 (Ideal.cmpTotal .gt) (refProb XA w b) Cert.ReferenceIdeal.Gen.sliceFits_S8192x64_S8192x2).2
      = shapeCast S_ (auxOf XA w (row b)) shapeCasts_S1x1_S_ := by
  choose i₁ i₂ hl using lead_of_no_tie XA w b h
  refine ⟨funext fun i => ?_, funext fun i => ?_, funext fun i => ?_⟩
  · obtain ⟨s, q, rfl⟩ : ∃ s q, i = ix2 s q := ⟨i 0, i 1, eq_ix2 i⟩
    rw [ids_all XA w b hl]
    exact (ref_all XA w b hl s q).2
  · obtain ⟨s, q, rfl⟩ : ∃ s q, i = ix2 s q := ⟨i 0, i 1, eq_ix2 i⟩
    rw [vals_all XA w b hl]
    exact (ref_all XA w b hl s q).1
  · obtain rfl : i = ix0 := funext fun a => a.elim0
    rw [← loss_all XA w b hl _ fun s => (ref_all XA w b hl s 0).2]
    pointwise []

end Cert.KernelIdeal.Values
-- ==== Proof.lean ====
/-
  The certificate: the run of the whole kernel, written once for any floats (Proof/Run.lean), gives the frames of the
  kernel and of its ideal reading; the reference's own run gives its frame; the values are joined in Proof/Values.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_no_tie
public import proofs.«01_k».proof.Proof.Run
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

/-- The body tables of the two programs, which have the same text, are one. -/
theorem defs₀_eq : (Cert.Kernel.defs₀ (F := Bits)) = (Cert.KernelIdeal.defs₀ (F := Bits)) := by
  unfold Cert.Kernel.defs₀ Cert.KernelIdeal.defs₀
  refine congrArg Defs.onTc (funext fun l => ?_)
  match l with
  | 0 => rfl
theorem defs_eq : (Cert.Kernel.defs (F := Bits)) = (Cert.KernelIdeal.defs (F := Bits)) := by
  unfold Cert.Kernel.defs Cert.KernelIdeal.defs
  exact congrArg (Pipeline.defs (Cert.KernelIdeal.pcfgs (F := Bits))) defs₀_eq

/-- The kernel at float words: the one run, read at `Bits`. -/
theorem frame_kernel : Cert.quiescent_Kernel := fun m ρ _ => by
  rw [defs_eq]
  exact (θ_run Cert.KernelIdeal.defs _ _).mono (fun _ h => ⟨fun c => (h.1 c).2, h.2⟩) (Cert.KernelIdeal.Body.run_main (F := Bits) m ρ)

/-- The ideal reading of the kernel runs and leaves its arguments and the counters as they were. -/
theorem frame_ideal : Cert.quiescent_KernelIdeal := fun m ρ _ =>
  (θ_run Cert.KernelIdeal.defs _ _).mono (fun _ h => ⟨fun c => (h.1 c).2, h.2⟩) (Cert.KernelIdeal.Body.run_main (F := Ideal) m ρ)

/-- The kernel at float words, under the precondition of the claims about its ideal reading. -/
theorem frame_kernel_pre : Cert.quiescent_Kernel_pre_no_tie := fun m ρ _ => frame_kernel m ρ trivial

/-- The reference runs; it has no semaphores. -/
theorem frame_ref : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The same, under the precondition. -/
theorem frame_ref_pre : Cert.quiescent_ReferenceIdeal_pre_no_tie := fun m ρ _ => frame_ref m ρ trivial

section Reference
open Cert.ReferenceIdeal Cert.ReferenceIdeal.Gen Cert.KernelIdeal.Values

/-- The reference's top-2 of its probabilities. -/
abbrev top2 (x : FVec Ideal S8192x2048 .f32) (w : FVec Ideal S2048x64 .f32) (b : FVec Ideal S64 .f32) : FVec Ideal S8192x2 .f32 × IVec S8192x2 32 :=
  Host.topK S8192x2 1 (Ideal.cmpTotal .gt) (refProb x w b) sliceFits_S8192x64_S8192x2

/-- The reference's run, its results named. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_indices)
          = (top2 (m ((c.tc : Thread nD τ).loc main_arg0)) (m ((c.tc : Thread nD τ).loc main_arg1)) (m ((c.tc : Thread nD τ).loc main_arg2))).2
      ∧ r.2.mem ((c.tc : Thread nD τ).loc main_values)
          = (top2 (m ((c.tc : Thread nD τ).loc main_arg0)) (m ((c.tc : Thread nD τ).loc main_arg1)) (m ((c.tc : Thread nD τ).loc main_arg2))).1
      ∧ r.2.mem ((c.tc : Thread nD τ).loc main_v33)
          = refAux (refProb (m ((c.tc : Thread nD τ).loc main_arg0)) (m ((c.tc : Thread nD τ).loc main_arg1)) (m ((c.tc : Thread nD τ).loc main_arg2)))
              (top2 (m ((c.tc : Thread nD τ).loc main_arg0)) (m ((c.tc : Thread nD τ).loc main_arg1)) (m ((c.tc : Thread nD τ).loc main_arg2))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun r h c => ⟨(h c).1.trans rfl, (h c).2.1.trans rfl, (h c).2.2.1.trans (by unfold Value.res_main_v33; rfl), (h c).2.2.2⟩)
    (Value.run (F := Ideal) m ρ)

end Reference

/-- The kernel's three results are the reference's. -/
theorem algebraic : Cert.algebraic_KernelIdeal_ReferenceIdeal := by
  intro m g m' g' hpre hargs
  refine ⟨Cert.KernelIdeal.Body.idsR m, Cert.KernelIdeal.Body.valsR m,
    fun c => shapeCast Cert.KernelIdeal.S_ (Cert.KernelIdeal.Body.auxR m c) Cert.KernelIdeal.Gen.shapeCasts_S1x1_S_, ?_, ?_⟩
  · exact (θ_run Cert.KernelIdeal.defs _ _).mono
      (fun _ h c => ⟨(h.1 c).1.1, (h.1 c).1.2.1, (h.1 c).1.2.2, (h.1 c).2⟩) (Cert.KernelIdeal.Body.run_main (F := Ideal) m g)
  · refine (θ_run Cert.ReferenceIdeal.defs _ _).mono (fun r h c => ?_) (run_ref m' g')
    obtain ⟨h0, h1, h2, hk⟩ := h c
    obtain ⟨e0, e1, e2⟩ := hargs c
    rw [e0, e1, e2] at h0 h1 h2
    obtain ⟨v0, v1, v2⟩ := Cert.KernelIdeal.Values.results (c := c) (Cert.KernelIdeal.Body.xA m c)
      (Cert.KernelIdeal.Body.wA m c) (m ((c.tc : Thread Cert.KernelIdeal.nD Cert.KernelIdeal.τ).loc Cert.KernelIdeal.main_arg2)) (hpre c)
    exact ⟨h0.trans v0, h1.trans v1, h2.trans v2, hk⟩

theorem claim : Cert.Claim := ⟨inferInstance, inferInstance, inferInstance, inferInstance,
  frame_kernel, frame_kernel_pre, frame_ideal, frame_ref, frame_ref_pre, trivial, algebraic⟩

end Cert.Proof

end
